-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))).2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))).2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9)) (m ((c.tc : Thread Cert.InprojIdeal.nD Cert.InprojIdeal.τ).loc Cert.InprojIdeal.main_arg10)) (m ((c.tc : Thread Cert.InprojIdeal.nD Cert.InprojIdeal.τ).loc Cert.InprojIdeal.main_arg11)) (m ((c.tc : Thread Cert.InprojIdeal.nD Cert.InprojIdeal.τ).loc Cert.InprojIdeal.main_arg12))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9)) (m ((c.tc : Thread Cert.InprojRefIdeal.nD Cert.InprojRefIdeal.τ).loc Cert.InprojRefIdeal.main_arg10)) (m ((c.tc : Thread Cert.InprojRefIdeal.nD Cert.InprojRefIdeal.τ).loc Cert.InprojRefIdeal.main_arg11)) (m ((c.tc : Thread Cert.InprojRefIdeal.nD Cert.InprojRefIdeal.τ).loc Cert.InprojRefIdeal.main_arg12))).2 = (fun _ => 1#1)

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_finite [hPre_band_finite : Cert.Pre_band_finite.Facts] (m : (ℓ : Loc Cert.BandIdeal.nD Cert.BandIdeal.τ Cert.BandIdeal.sig) → Buf (Elt Ideal) ℓ) : Prop :=
  ∀ c : Dev Cert.BandIdeal.nD,
    (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).1 = (fun _ => 1#1)
    ∧ (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1))).2 = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_finite [hPre_band_finite : Cert.Pre_band_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).1 = (fun _ => 1#1)
    ∧ (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1))).2 = (fun _ => 1#1)

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumRefIdeal (m : (ℓ : Loc Cert.CumRefIdeal.nD Cert.CumRefIdeal.τ Cert.CumRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandIdeal_pre_band_finite [hBandIdeal : Cert.BandIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_BandRefIdeal_pre_band_finite [hBandRefIdeal : Cert.BandRefIdeal.Facts] [hPre_band_finite : Cert.Pre_band_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0)
      ∧ r.2.mem ((c.tc : Thread Cert.Cum.nD Cert.Cum.τ).loc Cert.Cum.main_arg1) = m ((c.tc : Thread Cert.Cum.nD Cert.Cum.τ).loc Cert.Cum.main_arg1))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v38) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v52) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Mla_MlaIdeal : Prop :=
  IdealRules.named_const.Statement Cert.MlaIdeal.κ "mask" .f32 0xF149F2CA#32 ⊥

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v33) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)) (v6 : (c : Dev Cert.InprojIdeal.nD) → Buf (Elt Ideal) ((c.tc : Thread Cert.InprojIdeal.nD Cert.InprojIdeal.τ).loc Cert.InprojIdeal.main_v0_6)) (v7 : (c : Dev Cert.InprojIdeal.nD) → Buf (Elt Ideal) ((c.tc : Thread Cert.InprojIdeal.nD Cert.InprojIdeal.τ).loc Cert.InprojIdeal.main_v0_7)) (v8 : (c : Dev Cert.InprojIdeal.nD) → Buf (Elt Ideal) ((c.tc : Thread Cert.InprojIdeal.nD Cert.InprojIdeal.τ).loc Cert.InprojIdeal.main_v0_8)) (v9 : (c : Dev Cert.InprojIdeal.nD) → Buf (Elt Ideal) ((c.tc : Thread Cert.InprojIdeal.nD Cert.InprojIdeal.τ).loc Cert.InprojIdeal.main_v0_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_v0_6) = v6 c
          ∧ r.2.mem ((c.tc : Thread Cert.InprojIdeal.nD Cert.InprojIdeal.τ).loc Cert.InprojIdeal.main_v0_7) = v7 c
          ∧ r.2.mem ((c.tc : Thread Cert.InprojIdeal.nD Cert.InprojIdeal.τ).loc Cert.InprojIdeal.main_v0_8) = v8 c
          ∧ r.2.mem ((c.tc : Thread Cert.InprojIdeal.nD Cert.InprojIdeal.τ).loc Cert.InprojIdeal.main_v0_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v66) = v0 c
          ∧ r.2.mem ((c.tc : Thread Cert.InprojRefIdeal.nD Cert.InprojRefIdeal.τ).loc Cert.InprojRefIdeal.main_v67) = v1 c
          ∧ r.2.mem ((c.tc : Thread Cert.InprojRefIdeal.nD Cert.InprojRefIdeal.τ).loc Cert.InprojRefIdeal.main_v68) = v2 c
          ∧ r.2.mem ((c.tc : Thread Cert.InprojRefIdeal.nD Cert.InprojRefIdeal.τ).loc Cert.InprojRefIdeal.main_v69) = v3 c
          ∧ r.2.mem ((c.tc : Thread Cert.InprojRefIdeal.nD Cert.InprojRefIdeal.τ).loc Cert.InprojRefIdeal.main_v70) = v4 c
          ∧ r.2.mem ((c.tc : Thread Cert.InprojRefIdeal.nD Cert.InprojRefIdeal.τ).loc Cert.InprojRefIdeal.main_v71) = v5 c
          ∧ r.2.mem ((c.tc : Thread Cert.InprojRefIdeal.nD Cert.InprojRefIdeal.τ).loc Cert.InprojRefIdeal.main_v72) = v6 c
          ∧ r.2.mem ((c.tc : Thread Cert.InprojRefIdeal.nD Cert.InprojRefIdeal.τ).loc Cert.InprojRefIdeal.main_v73) = v7 c
          ∧ r.2.mem ((c.tc : Thread Cert.InprojRefIdeal.nD Cert.InprojRefIdeal.τ).loc Cert.InprojRefIdeal.main_v74) = v8 c
          ∧ r.2.mem ((c.tc : Thread Cert.InprojRefIdeal.nD Cert.InprojRefIdeal.τ).loc Cert.InprojRefIdeal.main_v75) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12))

def preserves_Band_BandIdeal : Prop :=
  True

def algebraic_BandIdeal_BandRefIdeal_pre_band_finite [hBandIdeal : Cert.BandIdeal.Facts] [hBandRefIdeal : Cert.BandRefIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)) →
    ∃ (v0 : (c : Dev Cert.BandIdeal.nD) → Buf (Elt Ideal) ((c.tc : Thread Cert.BandIdeal.nD Cert.BandIdeal.τ).loc Cert.BandIdeal.main_v0)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v0) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v50) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1))

def preserves_Cum_CumIdeal : Prop :=
  True

def algebraic_CumIdeal_CumRefIdeal [hCumIdeal : Cert.CumIdeal.Facts] [hCumRefIdeal : Cert.CumRefIdeal.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)
      ∧ m' ((c.tc : Thread Cert.CumRefIdeal.nD Cert.CumRefIdeal.τ).loc Cert.CumRefIdeal.main_arg1) = m ((c.tc : Thread Cert.CumIdeal.nD Cert.CumIdeal.τ).loc Cert.CumIdeal.main_arg1)) →
    ∃ (v0 : (c : Dev Cert.CumIdeal.nD) → Buf (Elt Ideal) ((c.tc : Thread Cert.CumIdeal.nD Cert.CumIdeal.τ).loc Cert.CumIdeal.main_v0)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v0) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0)
          ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v13) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0)
          ∧ r.2.mem ((c.tc : Thread Cert.CumRefIdeal.nD Cert.CumRefIdeal.τ).loc Cert.CumRefIdeal.main_arg1) = m' ((c.tc : Thread Cert.CumRefIdeal.nD Cert.CumRefIdeal.τ).loc Cert.CumRefIdeal.main_arg1))

def Claim : Prop :=
  ∃ (hFox : Cert.Fox.Facts) (hFoxIdeal : Cert.FoxIdeal.Facts) (hFoxRefIdeal : Cert.FoxRefIdeal.Facts) (hMoe : Cert.Moe.Facts) (hMoeIdeal : Cert.MoeIdeal.Facts) (hMoeRefIdeal : Cert.MoeRefIdeal.Facts) (hMla : Cert.Mla.Facts) (hMlaIdeal : Cert.MlaIdeal.Facts) (hMlaRefIdeal : Cert.MlaRefIdeal.Facts) (hInproj : Cert.Inproj.Facts) (hInprojIdeal : Cert.InprojIdeal.Facts) (hInprojRefIdeal : Cert.InprojRefIdeal.Facts) (hBand : Cert.Band.Facts) (hBandIdeal : Cert.BandIdeal.Facts) (hBandRefIdeal : Cert.BandRefIdeal.Facts) (hCum : Cert.Cum.Facts) (hCumIdeal : Cert.CumIdeal.Facts) (hCumRefIdeal : Cert.CumRefIdeal.Facts) (hPre_fox_finite : Cert.Pre_fox_finite.Facts) (hPre_mla_finite : Cert.Pre_mla_finite.Facts) (hPre_inproj_finite : Cert.Pre_inproj_finite.Facts) (hPre_band_finite : Cert.Pre_band_finite.Facts),
    quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Moe (hMoe := hMoe)
    ∧ quiescent_MoeIdeal (hMoeIdeal := hMoeIdeal)
    ∧ quiescent_MoeRefIdeal (hMoeRefIdeal := hMoeRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Band (hBand := hBand)
    ∧ quiescent_BandIdeal (hBandIdeal := hBandIdeal)
    ∧ quiescent_BandIdeal_pre_band_finite (hBandIdeal := hBandIdeal) (hPre_band_finite := hPre_band_finite)
    ∧ quiescent_BandRefIdeal (hBandRefIdeal := hBandRefIdeal)
    ∧ quiescent_BandRefIdeal_pre_band_finite (hBandRefIdeal := hBandRefIdeal) (hPre_band_finite := hPre_band_finite)
    ∧ quiescent_Cum (hCum := hCum)
    ∧ quiescent_CumIdeal (hCumIdeal := hCumIdeal)
    ∧ quiescent_CumRefIdeal (hCumRefIdeal := hCumRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Moe_MoeIdeal
    ∧ algebraic_MoeIdeal_MoeRefIdeal (hMoeIdeal := hMoeIdeal) (hMoeRefIdeal := hMoeRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Band_BandIdeal
    ∧ algebraic_BandIdeal_BandRefIdeal_pre_band_finite (hBandIdeal := hBandIdeal) (hBandRefIdeal := hBandRefIdeal) (hPre_band_finite := hPre_band_finite)
    ∧ preserves_Cum_CumIdeal
    ∧ algebraic_CumIdeal_CumRefIdeal (hCumIdeal := hCumIdeal) (hCumRefIdeal := hCumRefIdeal)
-- ==== Pre_band_finite.lean ====
abbrev S16x2048x768 : Shape := ⟨3, ![16, 2048, 768]⟩
abbrev S4x256x768 : Shape := ⟨3, ![4, 256, 768]⟩
abbrev S16x2048x512 : Shape := ⟨3, ![16, 2048, 512]⟩
abbrev S_ : Shape := ⟨0, ![]⟩

class Facts : Prop where
  slices_S16x2048x768_S16x2048x512_0_0_0 : S16x2048x768.Slices ![0, 0, 0] S16x2048x512
  bcast_S_S16x2048x512 : S_.BroadcastsInDim S16x2048x512 (![] : Fin 0 → Fin S16x2048x512.rank)
  bcast_S_S4x256x768 : S_.BroadcastsInDim S4x256x768 (![] : Fin 0 → Fin S4x256x768.rank)

variable [Facts]

def fn {F : FTy → Type} [FloatOps F] (main_arg0 : FVec F S16x2048x768 .bf16) (main_arg1 : FVec F S4x256x768 .f32) : IVec S16x2048x512 1 × IVec S4x256x768 1 :=
  let main_v0 : FVec F S16x2048x512 .bf16 := (extractStridedSlice S16x2048x512 ![0, 0, 0] · slices_S16x2048x768_S16x2048x512_0_0_0) main_arg0
  let main_v1 : FVec F S16x2048x512 .bf16 := Host.absf main_v0
  let main_cst : FVec F S_ .bf16 := constant S_ .bf16 0x7F80#16
  let main_v2 : FVec F S16x2048x512 .bf16 := broadcastInDim S16x2048x512 ![] bcast_S_S16x2048x512 main_cst
  let main_v3 : IVec S16x2048x512 1 := cmpf .olt main_v1 main_v2
  let main_v4 : FVec F S4x256x768 .f32 := Host.absf main_arg1
  let main_cst_0 : FVec F S_ .f32 := constant S_ .f32 0x7F800000#32
  let main_v5 : FVec F S4x256x768 .f32 := broadcastInDim S4x256x768 ![] bcast_S_S4x256x768 main_cst_0
  let main_v6 : IVec S4x256x768 1 := cmpf .olt main_v4 main_v5
  (main_v3, main_v6)
-- ==== Pre_fox_finite.lean ====
abbrev S16x2048x768 : Shape := ⟨3, ![16, 2048, 768]⟩
abbrev S16x8x2048 : Shape := ⟨3, ![16, 8, 2048]⟩
abbrev S16x2048x512 : Shape := ⟨3, ![16, 2048, 512]⟩
abbrev S_ : Shape := ⟨0, ![]⟩
abbrev S16x4x2048 : Shape := ⟨3, ![16, 4, 2048]⟩

class Facts : Prop where
  slices_S16x2048x768_S16x2048x512_0_0_0 : S16x2048x768.Slices ![0, 0, 0] S16x2048x512
  bcast_S_S16x2048x512 : S_.BroadcastsInDim S16x2048x512 (![] : Fin 0 → Fin S16x2048x512.rank)
  slices_S16x8x2048_S16x4x2048_0_0_0 : S16x8x2048.Slices ![0, 0, 0] S16x4x2048
  bcast_S_S16x4x2048 : S_.BroadcastsInDim S16x4x2048 (![] : Fin 0 → Fin S16x4x2048.rank)

variable [Facts]

def fn {F : FTy → Type} [FloatOps F] (main_arg0 : FVec F S16x2048x768 .bf16) (main_arg1 : FVec F S16x8x2048 .f32) : IVec S16x2048x512 1 × IVec S16x4x2048 1 :=
  let main_v0 : FVec F S16x2048x512 .bf16 := (extractStridedSlice S16x2048x512 ![0, 0, 0] · slices_S16x2048x768_S16x2048x512_0_0_0) main_arg0
  let main_v1 : FVec F S16x2048x512 .bf16 := Host.absf main_v0
  let main_cst : FVec F S_ .bf16 := constant S_ .bf16 0x7F80#16
  let main_v2 : FVec F S16x2048x512 .bf16 := broadcastInDim S16x2048x512 ![] bcast_S_S16x2048x512 main_cst
  let main_v3 : IVec S16x2048x512 1 := cmpf .olt main_v1 main_v2
  let main_v4 : FVec F S16x4x2048 .f32 := (extractStridedSlice S16x4x2048 ![0, 0, 0] · slices_S16x8x2048_S16x4x2048_0_0_0) main_arg1
  let main_v5 : FVec F S16x4x2048 .f32 := Host.absf main_v4
  let main_cst_0 : FVec F S_ .f32 := constant S_ .f32 0x7F800000#32
  let main_v6 : FVec F S16x4x2048 .f32 := broadcastInDim S16x4x2048 ![] bcast_S_S16x4x2048 main_cst_0
  let main_v7 : IVec S16x4x2048 1 := cmpf .olt main_v5 main_v6
  (main_v3, main_v7)
-- ==== Pre_inproj_finite.lean ====
abbrev S32768x1024 : Shape := ⟨2, ![32768, 1024]⟩
abbrev S1024x2816 : Shape := ⟨2, ![1024, 2816]⟩
abbrev S272x1024 : Shape := ⟨2, ![272, 1024]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S2048x512 : Shape := ⟨2, ![2048, 512]⟩
abbrev S_ : Shape := ⟨0, ![]⟩
abbrev S1024x128 : Shape := ⟨2, ![1024, 128]⟩

class Facts : Prop where
  bcast_S_S32768x1024 : S_.BroadcastsInDim S32768x1024 (![] : Fin 0 → Fin S32768x1024.rank)
  slices_S1024x2816_S1024x128_0_2688 : S1024x2816.Slices ![0, 2688] S1024x128
  bcast_S_S1024x128 : S_.BroadcastsInDim S1024x128 (![] : Fin 0 → Fin S1024x128.rank)

variable [Facts]

def fn {F : FTy → Type} [FloatOps F] (main_arg0 : FVec F S32768x1024 .f32) (main_arg1 : FVec F S1024x2816 .bf16) (main_arg2 : FVec F S272x1024 .bf16) (main_arg3 : FVec F S1x256 .f32) (main_arg4 : FVec F S1x128 .f32) (main_arg5 : FVec F S256x512 .bf16) (main_arg6 : FVec F S256x512 .bf16) (main_arg7 : FVec F S128x512 .bf16) (main_arg8 : FVec F S128x256 .bf16) (main_arg9 : FVec F S128x512 .bf16) (main_arg10 : FVec F S128x512 .bf16) (main_arg11 : FVec F S2048x512 .f32) (main_arg12 : FVec F S2048x512 .f32) : IVec S32768x1024 1 × IVec S1024x128 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024x128 .bf16 := (extractStridedSlice S1024x128 ![0, 2688] · slices_S1024x2816_S1024x128_0_2688) main_arg1
  let main_v4 : FVec F S1024x128 .bf16 := Host.absf main_v3
  let main_cst_0 : FVec F S_ .bf16 := constant S_ .bf16 0x7F80#16
  let main_v5 : FVec F S1024x128 .bf16 := broadcastInDim S1024x128 ![] bcast_S_S1024x128 main_cst_0
  let main_v6 : IVec S1024x128 1 := cmpf .olt main_v4 main_v5
  (main_v2, main_v6)
-- ==== Pre_mla_finite.lean ====
abbrev S16x2048x512 : Shape := ⟨3, ![16, 2048, 512]⟩
abbrev S16x2048x256 : Shape := ⟨3, ![16, 2048, 256]⟩
abbrev S_ : Shape := ⟨0, ![]⟩

class Facts : Prop where
  bcast_S_S16x2048x512 : S_.BroadcastsInDim S16x2048x512 (![] : Fin 0 → Fin S16x2048x512.rank)

variable [Facts]

def fn {F : FTy → Type} [FloatOps F] (main_arg0 : FVec F S16x2048x512 .bf16) (main_arg1 : FVec F S16x2048x512 .bf16) (main_arg2 : FVec F S16x2048x256 .bf16) : IVec S16x2048x512 1 × IVec S16x2048x512 1 :=
  let main_v0 : FVec F S16x2048x512 .bf16 := Host.absf main_arg0
  let main_cst : FVec F S_ .bf16 := constant S_ .bf16 0x7F80#16
  let main_v1 : FVec F S16x2048x512 .bf16 := broadcastInDim S16x2048x512 ![] bcast_S_S16x2048x512 main_cst
  let main_v2 : IVec S16x2048x512 1 := cmpf .olt main_v0 main_v1
  let main_v3 : FVec F S16x2048x512 .bf16 := Host.absf main_arg1
  let main_cst_0 : FVec F S_ .bf16 := constant S_ .bf16 0x7F80#16
  let main_v4 : FVec F S16x2048x512 .bf16 := broadcastInDim S16x2048x512 ![] bcast_S_S16x2048x512 main_cst_0
  let main_v5 : IVec S16x2048x512 1 := cmpf .olt main_v3 main_v4
  (main_v2, main_v5)
-- ==== Fox.lean ====
abbrev S16x2048x768 : Shape := ⟨3, ![16, 2048, 768]⟩
abbrev S16x8x2048 : Shape := ⟨3, ![16, 8, 2048]⟩
abbrev S16x2048x256 : Shape := ⟨3, ![16, 2048, 256]⟩
abbrev S1x256x256 : Shape := ⟨3, ![1, 256, 256]⟩
abbrev S1x2048x256 : Shape := ⟨3, ![1, 2048, 256]⟩
abbrev S1x8x2048 : Shape := ⟨3, ![1, 8, 2048]⟩
abbrev S256x256 : Shape := ⟨2, ![256, 256]⟩
abbrev S1x8x256 : Shape := ⟨3, ![1, 8, 256]⟩
abbrev S8x256 : Shape := ⟨2, ![8, 256]⟩
abbrev S256x64 : Shape := ⟨2, ![256, 64]⟩
abbrev S1x256 : Shape := ⟨2, ![1, 256]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S1x8x512 : Shape := ⟨3, ![1, 8, 512]⟩
abbrev S8x512 : Shape := ⟨2, ![8, 512]⟩
abbrev S512x64 : Shape := ⟨2, ![512, 64]⟩
abbrev S256x512 : Shape := ⟨2, ![256, 512]⟩
abbrev S1x512 : Shape := ⟨2, ![1, 512]⟩
abbrev S1x768x256 : Shape := ⟨3, ![1, 768, 256]⟩
abbrev S768x256 : Shape := ⟨2, ![768, 256]⟩
abbrev S1x8x768 : Shape := ⟨3, ![1, 8, 768]⟩
abbrev S8x768 : Shape := ⟨2, ![8, 768]⟩
abbrev S768x64 : Shape := ⟨2, ![768, 64]⟩
abbrev S256x768 : Shape := ⟨2, ![256, 768]⟩
abbrev S1x768 : Shape := ⟨2, ![1, 768]⟩
abbrev S1x1024x256 : Shape := ⟨3, ![1, 1024, 256]⟩
abbrev S1024x256 : Shape := ⟨2, ![1024, 256]⟩
abbrev S1x8x1024 : Shape := ⟨3, ![1, 8, 1024]⟩
abbrev S8x1024 : Shape := ⟨2, ![8, 1024]⟩
abbrev S1024x64 : Shape := ⟨2, ![1024, 64]⟩
abbrev S256x1024 : Shape := ⟨2, ![256, 1024]⟩
abbrev S1x1024 : Shape := ⟨2, ![1, 1024]⟩
abbrev S1x1280x256 : Shape := ⟨3, ![1, 1280, 256]⟩
abbrev S1280x256 : Shape := ⟨2, ![1280, 256]⟩
abbrev S1x8x1280 : Shape := ⟨3, ![1, 8, 1280]⟩
abbrev S8x1280 : Shape := ⟨2, ![8, 1280]⟩
abbrev S1280x64 : Shape := ⟨2, ![1280, 64]⟩
abbrev S256x1280 : Shape := ⟨2, ![256, 1280]⟩
abbrev S1x1280 : Shape := ⟨2, ![1, 1280]⟩
abbrev S1x1536x256 : Shape := ⟨3, ![1, 1536, 256]⟩
abbrev S1536x256 : Shape := ⟨2, ![1536, 256]⟩
abbrev S1x8x1536 : Shape := ⟨3, ![1, 8, 1536]⟩
abbrev S8x1536 : Shape := ⟨2, ![8, 1536]⟩
abbrev S1536x64 : Shape := ⟨2, ![1536, 64]⟩
abbrev S256x1536 : Shape := ⟨2, ![256, 1536]⟩
abbrev S1x1536 : Shape := ⟨2, ![1, 1536]⟩
abbrev S1x1792x256 : Shape := ⟨3, ![1, 1792, 256]⟩
abbrev S1792x256 : Shape := ⟨2, ![1792, 256]⟩
abbrev S1x8x1792 : Shape := ⟨3, ![1, 8, 1792]⟩
abbrev S8x1792 : Shape := ⟨2, ![8, 1792]⟩
abbrev S1792x64 : Shape := ⟨2, ![1792, 64]⟩
abbrev S256x1792 : Shape := ⟨2, ![256, 1792]⟩
abbrev S1x1792 : Shape := ⟨2, ![1, 1792]⟩
abbrev S2048x256 : Shape := ⟨2, ![2048, 256]⟩
abbrev S8x2048 : Shape := ⟨2, ![8, 2048]⟩
abbrev S2048x64 : Shape := ⟨2, ![2048, 64]⟩
abbrev S256x2048 : Shape := ⟨2, ![256, 2048]⟩
abbrev S1x2048 : Shape := ⟨2, ![1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S16x2048x768, .bf16⟩
  | .hbm, ⟨1, _⟩ => ⟨S16x8x2048, .f32⟩
  | .hbm, ⟨2, _⟩ => ⟨S16x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x8x2048, .f32⟩
  | .local _ .vmem, ⟨7, _⟩ => ⟨S1x8x2048, .f32⟩
  | .local _ .vmem, ⟨8, _⟩ => ⟨S1x256x256, .bf16⟩
  | .local _ .vmem, ⟨9, _⟩ => ⟨S1x256x256, .bf16⟩
  | _, _ => ⟨S16x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S16x2048x768 : Shape := ⟨3, ![16, 2048, 768]⟩
abbrev S16x8x2048 : Shape := ⟨3, ![16, 8, 2048]⟩
abbrev S16x2048x256 : Shape := ⟨3, ![16, 2048, 256]⟩
abbrev S16x2048x4x64 : Shape := ⟨4, ![16, 2048, 4, 64]⟩
abbrev S16x4x2048 : Shape := ⟨3, ![16, 4, 2048]⟩
abbrev S16x4x2048x2048 : Shape := ⟨4, ![16, 4, 2048, 2048]⟩
abbrev S_ : Shape := ⟨0, ![]⟩
abbrev S16x4x2048x1 : Shape := ⟨4, ![16, 4, 2048, 1]⟩
abbrev S16x4x1x2048 : Shape := ⟨4, ![16, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x4x64x2048 : Shape := ⟨4, ![16, 4, 64, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x768, .bf16⟩
  | .hbm, ⟨1, _⟩ => ⟨S16x8x2048, .f32⟩
  | .hbm, ⟨2, _⟩ => ⟨S16x2048x768, .f32⟩
  | .hbm, ⟨3, _⟩ => ⟨S16x2048x256, .f32⟩
  | .hbm, ⟨4, _⟩ => ⟨S16x2048x256, .f32⟩
  | .hbm, ⟨5, _⟩ => ⟨S16x2048x256, .f32⟩
  | .hbm, ⟨6, _⟩ => ⟨S16x2048x4x64, .f32⟩
  | .hbm, ⟨7, _⟩ => ⟨S16x2048x4x64, .f32⟩
  | .hbm, ⟨8, _⟩ => ⟨S16x2048x4x64, .f32⟩
  | .hbm, ⟨9, _⟩ => ⟨S16x4x2048, .f32⟩
  | .hbm, ⟨10, _⟩ => ⟨S16x4x2048x2048, .f32⟩
  | .hbm, ⟨11, _⟩ => ⟨S_, .f32⟩
  | .hbm, ⟨12, _⟩ => ⟨S16x4x2048x2048, .f32⟩
  | .hbm, ⟨13, _⟩ => ⟨S16x4x2048x2048, .f32⟩
  | .hbm, ⟨14, _⟩ => ⟨S16x4x2048x1, .f32⟩
  | .hbm, ⟨15, _⟩ => ⟨S16x4x1x2048, .f32⟩
  | .hbm, ⟨16, _⟩ => ⟨S16x4x2048x2048, .f32⟩
  | .hbm, ⟨17, _⟩ => ⟨S16x4x2048x2048, .f32⟩
  | .hbm, ⟨18, _⟩ => ⟨S16x4x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S16x4x2048x2048, .i1⟩
  | .hbm, ⟨28, _⟩ => ⟨S16x4x2048x2048, .f32⟩
  | .hbm, ⟨29, _⟩ => ⟨S16x4x2048x2048, .f32⟩
  | .hbm, ⟨30, _⟩ => ⟨S16x4x2048x2048, .f32⟩
  | .hbm, ⟨31, _⟩ => ⟨S_, .f32⟩
  | .hbm, ⟨32, _⟩ => ⟨S16x4x2048, .f32⟩
  | .hbm, ⟨33, _⟩ => ⟨S_, .f32⟩
  | .hbm, ⟨34, _⟩ => ⟨S16x4x2048, .f32⟩
  | .hbm, ⟨35, _⟩ => ⟨S16x4x2048, .f32⟩
  | .hbm, ⟨36, _⟩ => ⟨S16x4x2048x1, .f32⟩
  | .hbm, ⟨37, _⟩ => ⟨S16x4x2048x2048, .f32⟩
  | .hbm, ⟨38, _⟩ => ⟨S16x4x2048x2048, .f32⟩
  | .hbm, ⟨39, _⟩ => ⟨S16x4x2048x2048, .f32⟩
  | .hbm, ⟨40, _⟩ => ⟨S_, .f32⟩
  | .hbm, ⟨41, _⟩ => ⟨S16x4x2048, .f32⟩
  | .hbm, ⟨42, _⟩ => ⟨S16x4x2048x1, .f32⟩
  | .hbm, ⟨43, _⟩ => ⟨S16x4x2048x2048, .f32⟩
  | .hbm, ⟨44, _⟩ => ⟨S16x4x2048x2048, .f32⟩
  | .hbm, ⟨45, _⟩ => ⟨S16x4x64x2048, .f32⟩
  | .hbm, ⟨46, _⟩ => ⟨S16x2048x4x64, .f32⟩
  | .hbm, ⟨47, _⟩ => ⟨S16x2048x256, .f32⟩
  | .hbm, ⟨48, _⟩ => ⟨S16x2048x256, .bf16⟩
  | _, _ => ⟨S16x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Moe.lean ====
abbrev S32768x1024 : Shape := ⟨2, ![32768, 1024]⟩
abbrev S16x32768x4 : Shape := ⟨3, ![16, 32768, 4]⟩
abbrev S4x64x1024x512 : Shape := ⟨4, ![4, 64, 1024, 512]⟩
abbrev S4x64x256x1024 : Shape := ⟨4, ![4, 64, 256, 1024]⟩
abbrev S1024x512 : Shape := ⟨2, ![1024, 512]⟩
abbrev S256x1024 : Shape := ⟨2, ![256, 1024]⟩
abbrev S1x1024 : Shape := ⟨2, ![1, 1024]⟩
abbrev S1024x1024 : Shape := ⟨2, ![1024, 1024]⟩
abbrev S1x1024x4 : Shape := ⟨3, ![1, 1024, 4]⟩
abbrev S1x4x1024x512 : Shape := ⟨4, ![1, 4, 1024, 512]⟩
abbrev S1x4x256x1024 : Shape := ⟨4, ![1, 4, 256, 1024]⟩
abbrev S1024x256 : Shape := ⟨2, ![1024, 256]⟩
abbrev S1024x4 : Shape := ⟨2, ![1024, 4]⟩
abbrev S1x1x1024x512 : Shape := ⟨4, ![1, 1, 1024, 512]⟩
abbrev S1024x1 : Shape := ⟨2, ![1024, 1]⟩
abbrev S4x256x1024 : Shape := ⟨3, ![4, 256, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S16x32768x4, .f32⟩
  | .hbm, ⟨2, _⟩ => ⟨S4x64x1024x512, .bf16⟩
  | .hbm, ⟨3, _⟩ => ⟨S4x64x256x1024, .bf16⟩
  | .hbm, ⟨4, _⟩ => ⟨S1024x512, .bf16⟩
  | .hbm, ⟨5, _⟩ => ⟨S256x1024, .bf16⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x4, .f32⟩
  | .local _ .vmem, ⟨3, _⟩ => ⟨S1x1024x4, .f32⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x256x1024, .bf16⟩
  | .local _ .vmem, ⟨7, _⟩ => ⟨S1x4x256x1024, .bf16⟩
  | .local _ .vmem, ⟨8, _⟩ => ⟨S1024x512, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v80 : BitVec 1 := Scalar.cmpi .eq arg1 c15_i32
  let v81 : BitVec 32 := Scalar.extui v80
  let c0_i32_38 : BitVec 32 := 0#32
  let v82 : BitVec 1 := Scalar.cmpi .ne v81 c0_i32_38
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MoeRefIdeal.lean ====
abbrev S32768x1024 : Shape := ⟨2, ![32768, 1024]⟩
abbrev S16x32768x4 : Shape := ⟨3, ![16, 32768, 4]⟩
abbrev S4x64x1024x512 : Shape := ⟨4, ![4, 64, 1024, 512]⟩
abbrev S4x64x256x1024 : Shape := ⟨4, ![4, 64, 256, 1024]⟩
abbrev S1024x512 : Shape := ⟨2, ![1024, 512]⟩
abbrev S256x1024 : Shape := ⟨2, ![256, 1024]⟩
abbrev S1x1024 : Shape := ⟨2, ![1, 1024]⟩
abbrev S16x4x32768 : Shape := ⟨3, ![16, 4, 32768]⟩
abbrev S64x32768 : Shape := ⟨2, ![64, 32768]⟩
abbrev S1x64x1024x512 : Shape := ⟨4, ![1, 64, 1024, 512]⟩
abbrev S64x1024x512 : Shape := ⟨3, ![64, 1024, 512]⟩
abbrev S1x64x256x1024 : Shape := ⟨4, ![1, 64, 256, 1024]⟩
abbrev S64x256x1024 : Shape := ⟨3, ![64, 256, 1024]⟩
abbrev S64x512x32768 : Shape := ⟨3, ![64, 512, 32768]⟩
abbrev S64x32768x512 : Shape := ⟨3, ![64, 32768, 512]⟩
abbrev S64x32768x256 : Shape := ⟨3, ![64, 32768, 256]⟩
abbrev S_ : Shape := ⟨0, ![]⟩
abbrev S64x32768x1 : Shape := ⟨3, ![64, 32768, 1]⟩
abbrev S64x32768x1024 : Shape := ⟨3, ![64, 32768, 1024]⟩
abbrev S32768x512 : Shape := ⟨2, ![32768, 512]⟩
abbrev S32768x256 : Shape := ⟨2, ![32768, 256]⟩
abbrev S32768 : Shape := ⟨1, ![32768]⟩
abbrev S32768x1 : Shape := ⟨2, ![32768, 1]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x32768x4, .f32⟩
  | .hbm, ⟨2, _⟩ => ⟨S4x64x1024x512, .bf16⟩
  | .hbm, ⟨3, _⟩ => ⟨S4x64x256x1024, .bf16⟩
  | .hbm, ⟨4, _⟩ => ⟨S1024x512, .bf16⟩
  | .hbm, ⟨5, _⟩ => ⟨S256x1024, .bf16⟩
  | .hbm, ⟨6, _⟩ => ⟨S1x1024, .f32⟩
  | .hbm, ⟨7, _⟩ => ⟨S1x1024, .f32⟩
  | .hbm, ⟨8, _⟩ => ⟨S16x4x32768, .f32⟩
  | .hbm, ⟨9, _⟩ => ⟨S64x32768, .f32⟩
  | .hbm, ⟨10, _⟩ => ⟨S1x64x1024x512, .bf16⟩
  | .hbm, ⟨11, _⟩ => ⟨S64x1024x512, .bf16⟩
  | .hbm, ⟨12, _⟩ => ⟨S64x1024x512, .f32⟩
  | .hbm, ⟨13, _⟩ => ⟨S1x64x256x1024, .bf16⟩
  | .hbm, ⟨14, _⟩ => ⟨S64x256x1024, .bf16⟩
  | .hbm, ⟨15, _⟩ => ⟨S64x256x1024, .f32⟩
  | .hbm, ⟨16, _⟩ => ⟨S1024x512, .f32⟩
  | .hbm, ⟨17, _⟩ => ⟨S256x1024, .f32⟩
  | .hbm, ⟨18, _⟩ => ⟨S64x512x32768, .f32⟩
  | .hbm, ⟨19, _⟩ => ⟨S64x32768x512, .f32⟩
  | .hbm, ⟨20, _⟩ => ⟨S64x32768x256, .f32⟩
  | .hbm, ⟨21, _⟩ => ⟨S64x32768x256, .f32⟩
  | .hbm, ⟨22, _⟩ => ⟨S64x32768x256, .f32⟩
  | .hbm, ⟨23, _⟩ => ⟨S_, .f32⟩
  | .hbm, ⟨24, _⟩ => ⟨S64x32768x256, .f32⟩
  | .hbm, ⟨25, _⟩ => ⟨S64x32768x256, .f32⟩
  | .hbm, ⟨26, _⟩ => ⟨S_, .f32⟩
  | .hbm, ⟨27, _⟩ => ⟨S64x32768x256, .f32⟩
  | .hbm, ⟨28, _⟩ => ⟨S64x32768x256, .f32⟩
  | .hbm, ⟨29, _⟩ => ⟨S64x32768x256, .f32⟩
  | .hbm, ⟨30, _⟩ => ⟨S64x32768x256, .f32⟩
  | .hbm, ⟨31, _⟩ => ⟨S64x32768x256, .f32⟩
  | .hbm, ⟨32, _⟩ => ⟨S64x32768x1, .f32⟩
  | .hbm, ⟨33, _⟩ => ⟨S64x32768x256, .f32⟩
  | .hbm, ⟨34, _⟩ => ⟨S64x32768x256, .f32⟩
  | .hbm, ⟨35, _⟩ => ⟨S64x32768x1024, .f32⟩
  | .hbm, ⟨36, _⟩ => ⟨S_, .f32⟩
  | .hbm, ⟨37, _⟩ => ⟨S32768x1024, .f32⟩
  | .hbm, ⟨38, _⟩ => ⟨S32768x512, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S32768x256, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== Mla.lean ====
abbrev S16x2048x512 : Shape := ⟨3, ![16, 2048, 512]⟩
abbrev S16x2048x256 : Shape := ⟨3, ![16, 2048, 256]⟩
abbrev S1x256x512 : Shape := ⟨3, ![1, 256, 512]⟩
abbrev S1x2048x512 : Shape := ⟨3, ![1, 2048, 512]⟩
abbrev S1x2048x256 : Shape := ⟨3, ![1, 2048, 256]⟩
abbrev S1x256x256 : Shape := ⟨3, ![1, 256, 256]⟩
abbrev S256x512 : Shape := ⟨2, ![256, 512]⟩
abbrev S256x256 : Shape := ⟨2, ![256, 256]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S1x512x512 : Shape := ⟨3, ![1, 512, 512]⟩
abbrev S512x512 : Shape := ⟨2, ![512, 512]⟩
abbrev S1x512x256 : Shape := ⟨3, ![1, 512, 256]⟩
abbrev S512x256 : Shape := ⟨2, ![512, 256]⟩
abbrev S512x128 : Shape := ⟨2, ![512, 128]⟩
abbrev S512x64 : Shape := ⟨2, ![512, 64]⟩
abbrev S1x768x512 : Shape := ⟨3, ![1, 768, 512]⟩
abbrev S768x512 : Shape := ⟨2, ![768, 512]⟩
abbrev S1x768x256 : Shape := ⟨3, ![1, 768, 256]⟩
abbrev S768x256 : Shape := ⟨2, ![768, 256]⟩
abbrev S768x128 : Shape := ⟨2, ![768, 128]⟩
abbrev S256x768 : Shape := ⟨2, ![256, 768]⟩
abbrev S768x64 : Shape := ⟨2, ![768, 64]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S1024x128 : Shape := ⟨2, ![1024, 128]⟩
abbrev S256x1024 : Shape := ⟨2, ![256, 1024]⟩
abbrev S1024x64 : Shape := ⟨2, ![1024, 64]⟩
abbrev S1x1280x512 : Shape := ⟨3, ![1, 1280, 512]⟩
abbrev S1280x512 : Shape := ⟨2, ![1280, 512]⟩
abbrev S1x1280x256 : Shape := ⟨3, ![1, 1280, 256]⟩
abbrev S1280x256 : Shape := ⟨2, ![1280, 256]⟩
abbrev S1280x128 : Shape := ⟨2, ![1280, 128]⟩
abbrev S256x1280 : Shape := ⟨2, ![256, 1280]⟩
abbrev S1280x64 : Shape := ⟨2, ![1280, 64]⟩
abbrev S1x1536x512 : Shape := ⟨3, ![1, 1536, 512]⟩
abbrev S1536x512 : Shape := ⟨2, ![1536, 512]⟩
abbrev S1x1536x256 : Shape := ⟨3, ![1, 1536, 256]⟩
abbrev S1536x256 : Shape := ⟨2, ![1536, 256]⟩
abbrev S1536x128 : Shape := ⟨2, ![1536, 128]⟩
abbrev S256x1536 : Shape := ⟨2, ![256, 1536]⟩
abbrev S1536x64 : Shape := ⟨2, ![1536, 64]⟩
abbrev S1x1792x512 : Shape := ⟨3, ![1, 1792, 512]⟩
abbrev S1792x512 : Shape := ⟨2, ![1792, 512]⟩
abbrev S1x1792x256 : Shape := ⟨3, ![1, 1792, 256]⟩
abbrev S1792x256 : Shape := ⟨2, ![1792, 256]⟩
abbrev S1792x128 : Shape := ⟨2, ![1792, 128]⟩
abbrev S256x1792 : Shape := ⟨2, ![256, 1792]⟩
abbrev S1792x64 : Shape := ⟨2, ![1792, 64]⟩
abbrev S2048x512 : Shape := ⟨2, ![2048, 512]⟩
abbrev S2048x256 : Shape := ⟨2, ![2048, 256]⟩
abbrev S2048x128 : Shape := ⟨2, ![2048, 128]⟩
abbrev S256x2048 : Shape := ⟨2, ![256, 2048]⟩
abbrev S2048x64 : Shape := ⟨2, ![2048, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .bf16⟩
  | .hbm, ⟨3, _⟩ => ⟨S16x2048x256, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "mask" => some ⊥
  | _ => none
-- ==== MlaRefIdeal.lean ====
abbrev S16x2048x512 : Shape := ⟨3, ![16, 2048, 512]⟩
abbrev S16x2048x256 : Shape := ⟨3, ![16, 2048, 256]⟩
abbrev S16x2048x4x128 : Shape := ⟨4, ![16, 2048, 4, 128]⟩
abbrev S16x2048x4x64 : Shape := ⟨4, ![16, 2048, 4, 64]⟩
abbrev S16x4x2048x2048 : Shape := ⟨4, ![16, 4, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x256, .bf16⟩
  | .hbm, ⟨3, _⟩ => ⟨S16x2048x512, .f32⟩
  | .hbm, ⟨4, _⟩ => ⟨S16x2048x512, .f32⟩
  | .hbm, ⟨5, _⟩ => ⟨S16x2048x256, .f32⟩
  | .hbm, ⟨6, _⟩ => ⟨S16x2048x4x128, .f32⟩
  | .hbm, ⟨7, _⟩ => ⟨S16x2048x4x128, .f32⟩
  | .hbm, ⟨8, _⟩ => ⟨S16x2048x4x64, .f32⟩
  | .hbm, ⟨9, _⟩ => ⟨S16x4x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S1x1x2048x2048, .f32⟩
  | .hbm, ⟨41, _⟩ => ⟨S16x4x2048x2048, .f32⟩
  | .hbm, ⟨42, _⟩ => ⟨S16x4x2048x2048, .f32⟩
  | .hbm, ⟨43, _⟩ => ⟨S_, .f32⟩
  | .hbm, ⟨44, _⟩ => ⟨S16x4x2048, .f32⟩
  | .hbm, ⟨45, _⟩ => ⟨S_, .f32⟩
  | .hbm, ⟨46, _⟩ => ⟨S16x4x2048, .f32⟩
  | .hbm, ⟨47, _⟩ => ⟨S16x4x2048, .f32⟩
  | .hbm, ⟨48, _⟩ => ⟨S16x4x2048x1, .f32⟩
  | .hbm, ⟨49, _⟩ => ⟨S16x4x2048x2048, .f32⟩
  | .hbm, ⟨50, _⟩ => ⟨S16x4x2048x2048, .f32⟩
  | .hbm, ⟨51, _⟩ => ⟨S16x4x2048x2048, .f32⟩
  | .hbm, ⟨52, _⟩ => ⟨S_, .f32⟩
  | .hbm, ⟨53, _⟩ => ⟨S16x4x2048, .f32⟩
  | .hbm, ⟨54, _⟩ => ⟨S16x4x2048x1, .f32⟩
  | .hbm, ⟨55, _⟩ => ⟨S16x4x2048x2048, .f32⟩
  | .hbm, ⟨56, _⟩ => ⟨S16x4x2048x2048, .f32⟩
  | .hbm, ⟨57, _⟩ => ⟨S16x4x64x2048, .f32⟩
  | .hbm, ⟨58, _⟩ => ⟨S16x2048x4x64, .f32⟩
  | .hbm, ⟨59, _⟩ => ⟨S16x2048x256, .f32⟩
  | .hbm, ⟨60, _⟩ => ⟨S16x2048x256, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== Inproj.lean ====
abbrev S32768x1024 : Shape := ⟨2, ![32768, 1024]⟩
abbrev S1024x2816 : Shape := ⟨2, ![1024, 2816]⟩
abbrev S272x1024 : Shape := ⟨2, ![272, 1024]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S2048x512 : Shape := ⟨2, ![2048, 512]⟩
abbrev S32768x768 : Shape := ⟨2, ![32768, 768]⟩
abbrev S32768x512 : Shape := ⟨2, ![32768, 512]⟩
abbrev S32768x256 : Shape := ⟨2, ![32768, 256]⟩
abbrev S32768x32 : Shape := ⟨2, ![32768, 32]⟩
abbrev S16x256x2048 : Shape := ⟨3, ![16, 256, 2048]⟩
abbrev S16x16x2048 : Shape := ⟨3, ![16, 16, 2048]⟩
abbrev S512x1024 : Shape := ⟨2, ![512, 1024]⟩
abbrev S512x512 : Shape := ⟨2, ![512, 512]⟩
abbrev S512x768 : Shape := ⟨2, ![512, 768]⟩
abbrev S512x256 : Shape := ⟨2, ![512, 256]⟩
abbrev S512x32 : Shape := ⟨2, ![512, 32]⟩
abbrev S1x256x512 : Shape := ⟨3, ![1, 256, 512]⟩
abbrev S1x16x512 : Shape := ⟨3, ![1, 16, 512]⟩
abbrev S1024x768 : Shape := ⟨2, ![1024, 768]⟩
abbrev S1024x512 : Shape := ⟨2, ![1024, 512]⟩
abbrev S1024x256 : Shape := ⟨2, ![1024, 256]⟩
abbrev S512x128 : Shape := ⟨2, ![512, 128]⟩
abbrev S512 : Shape := ⟨1, ![512]⟩
abbrev S512x1 : Shape := ⟨2, ![512, 1]⟩
abbrev S272x512 : Shape := ⟨2, ![272, 512]⟩
abbrev S16x512 : Shape := ⟨2, ![16, 512]⟩

abbrev nBuf : Space → Nat
  | .hbm => 23
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S272x1024, .bf16⟩
  | .hbm, ⟨3, _⟩ => ⟨S1x256, .f32⟩
  | .hbm, ⟨4, _⟩ => ⟨S1x128, .f32⟩
  | .hbm, ⟨5, _⟩ => ⟨S256x512, .bf16⟩
  | .hbm, ⟨6, _⟩ => ⟨S256x512, .bf16⟩
  | .hbm, ⟨7, _⟩ => ⟨S128x512, .bf16⟩
  | .hbm, ⟨8, _⟩ => ⟨S128x256, .bf16⟩
  | .hbm, ⟨9, _⟩ => ⟨S128x512, .bf16⟩
  | .hbm, ⟨10, _⟩ => ⟨S128x512, .bf16⟩
  | .hbm, ⟨11, _⟩ => ⟨S2048x512, .f32⟩
  | .hbm, ⟨12, _⟩ => ⟨S2048x512, .f32⟩
  | .hbm, ⟨13, _⟩ => ⟨S32768x768, .bf16⟩
  | .hbm, ⟨14, _⟩ => ⟨S32768x512, .bf16⟩
  | .hbm, ⟨15, _⟩ => ⟨S32768x768, .bf16⟩
  | .hbm, ⟨16, _⟩ => ⟨S32768x256, .bf16⟩
  | .hbm, ⟨17, _⟩ => ⟨S32768x32, .bf16⟩
  | .hbm, ⟨18, _⟩ => ⟨S32768x512, .bf16⟩
  | .hbm, ⟨19, _⟩ => ⟨S32768x512, .bf16⟩
  | .hbm, ⟨20, _⟩ => ⟨S32768x256, .bf16⟩
  | .hbm, ⟨21, _⟩ => ⟨S16x256x2048, .bf16⟩
  | .hbm, ⟨22, _⟩ => ⟨S16x16x2048, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S272x1024, .bf16⟩
  | .local _ .vmem, ⟨4, _⟩ => ⟨S1x256, .f32⟩
  | .local _ .vmem, ⟨5, _⟩ => ⟨S1x128, .f32⟩
  | .local _ .vmem, ⟨6, _⟩ => ⟨S256x512, .bf16⟩
  | .local _ .vmem, ⟨7, _⟩ => ⟨S256x512, .bf16⟩
  | .local _ .vmem, ⟨8, _⟩ => ⟨S128x512, .bf16⟩
  | .local _ .vmem, ⟨9, _⟩ => ⟨S128x256, .bf16⟩
  | .local _ .vmem, ⟨10, _⟩ => ⟨S128x512, .bf16⟩
  | .local _ .vmem, ⟨11, _⟩ => ⟨S128x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x768, .bf16⟩
  | .local _ .vmem, ⟨17, _⟩ => ⟨S512x768, .bf16⟩
  | .local _ .vmem, ⟨18, _⟩ => ⟨S512x512, .bf16⟩
  | .local _ .vmem, ⟨19, _⟩ => ⟨S512x512, .bf16⟩
  | .local _ .vmem, ⟨20, _⟩ => ⟨S512x768, .bf16⟩
  | .local _ .vmem, ⟨21, _⟩ => ⟨S512x768, .bf16⟩
  | .local _ .vmem, ⟨22, _⟩ => ⟨S512x256, .bf16⟩
  | .local _ .vmem, ⟨23, _⟩ => ⟨S512x256, .bf16⟩
  | .local _ .vmem, ⟨24, _⟩ => ⟨S512x32, .bf16⟩
  | .local _ .vmem, ⟨25, _⟩ => ⟨S512x32, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x256, .bf16⟩
  | .local _ .vmem, ⟨31, _⟩ => ⟨S512x256, .bf16⟩
  | .local _ .vmem, ⟨32, _⟩ => ⟨S1x256x512, .bf16⟩
  | .local _ .vmem, ⟨33, _⟩ => ⟨S1x256x512, .bf16⟩
  | .local _ .vmem, ⟨34, _⟩ => ⟨S1x16x512, .f32⟩
  | .local _ .vmem, ⟨35, _⟩ => ⟨S1x16x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S272x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x32 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x16x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InprojRefIdeal.lean ====
abbrev S32768x1024 : Shape := ⟨2, ![32768, 1024]⟩
abbrev S1024x2816 : Shape := ⟨2, ![1024, 2816]⟩
abbrev S272x1024 : Shape := ⟨2, ![272, 1024]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S128x256 : Shape := ⟨2, ![128, 256]⟩
abbrev S2048x512 : Shape := ⟨2, ![2048, 512]⟩
abbrev S32768x2816 : Shape := ⟨2, ![32768, 2816]⟩
abbrev S32768x768 : Shape := ⟨2, ![32768, 768]⟩
abbrev S32768x512 : Shape := ⟨2, ![32768, 512]⟩
abbrev S32768x256 : Shape := ⟨2, ![32768, 256]⟩
abbrev S32768x128 : Shape := ⟨2, ![32768, 128]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1x2048x1x512 : Shape := ⟨4, ![1, 2048, 1, 512]⟩
abbrev S16x2048x1x512 : Shape := ⟨4, ![16, 2048, 1, 512]⟩
abbrev S16x2048x1024 : Shape := ⟨3, ![16, 2048, 1024]⟩
abbrev S16x2048x272 : Shape := ⟨3, ![16, 2048, 272]⟩
abbrev S16x272x2048 : Shape := ⟨3, ![16, 272, 2048]⟩
abbrev S16x256x2048 : Shape := ⟨3, ![16, 256, 2048]⟩
abbrev S16x16x2048 : Shape := ⟨3, ![16, 16, 2048]⟩

abbrev nBuf : Space → Nat
  | .hbm => 96
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S272x1024, .bf16⟩
  | .hbm, ⟨3, _⟩ => ⟨S1x256, .f32⟩
  | .hbm, ⟨4, _⟩ => ⟨S1x128, .f32⟩
  | .hbm, ⟨5, _⟩ => ⟨S256x512, .bf16⟩
  | .hbm, ⟨6, _⟩ => ⟨S256x512, .bf16⟩
  | .hbm, ⟨7, _⟩ => ⟨S128x512, .bf16⟩
  | .hbm, ⟨8, _⟩ => ⟨S128x256, .bf16⟩
  | .hbm, ⟨9, _⟩ => ⟨S128x512, .bf16⟩
  | .hbm, ⟨10, _⟩ => ⟨S128x512, .bf16⟩
  | .hbm, ⟨11, _⟩ => ⟨S2048x512, .f32⟩
  | .hbm, ⟨12, _⟩ => ⟨S2048x512, .f32⟩
  | .hbm, ⟨13, _⟩ => ⟨S1024x2816, .f32⟩
  | .hbm, ⟨14, _⟩ => ⟨S272x1024, .f32⟩
  | .hbm, ⟨15, _⟩ => ⟨S256x512, .f32⟩
  | .hbm, ⟨16, _⟩ => ⟨S256x512, .f32⟩
  | .hbm, ⟨17, _⟩ => ⟨S128x512, .f32⟩
  | .hbm, ⟨18, _⟩ => ⟨S128x256, .f32⟩
  | .hbm, ⟨19, _⟩ => ⟨S128x512, .f32⟩
  | .hbm, ⟨20, _⟩ => ⟨S128x512, .f32⟩
  | .hbm, ⟨21, _⟩ => ⟨S32768x2816, .f32⟩
  | .hbm, ⟨22, _⟩ => ⟨S32768x768, .f32⟩
  | .hbm, ⟨23, _⟩ => ⟨S32768x512, .f32⟩
  | .hbm, ⟨24, _⟩ => ⟨S32768x768, .f32⟩
  | .hbm, ⟨25, _⟩ => ⟨S32768x256, .f32⟩
  | .hbm, ⟨26, _⟩ => ⟨S32768x256, .f32⟩
  | .hbm, ⟨27, _⟩ => ⟨S32768x128, .f32⟩
  | .hbm, ⟨28, _⟩ => ⟨S32768x128, .f32⟩
  | .hbm, ⟨29, _⟩ => ⟨S32768x32, .f32⟩
  | .hbm, ⟨30, _⟩ => ⟨S32768x256, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x128, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x128, .f32⟩
  | .hbm, ⟨57, _⟩ => ⟨S32768x128, .f32⟩
  | .hbm, ⟨58, _⟩ => ⟨S32768x128, .f32⟩
  | .hbm, ⟨59, _⟩ => ⟨S32768x128, .f32⟩
  | .hbm, ⟨60, _⟩ => ⟨S1x2048x1x512, .f32⟩
  | .hbm, ⟨61, _⟩ => ⟨S16x2048x1x512, .f32⟩
  | .hbm, ⟨62, _⟩ => ⟨S32768x512, .f32⟩
  | .hbm, ⟨63, _⟩ => ⟨S1x2048x1x512, .f32⟩
  | .hbm, ⟨64, _⟩ => ⟨S16x2048x1x512, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S_, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S16x2048x1024, .f32⟩
  | .hbm, ⟨82, _⟩ => ⟨S16x2048x272, .f32⟩
  | .hbm, ⟨83, _⟩ => ⟨S16x272x2048, .f32⟩
  | .hbm, ⟨84, _⟩ => ⟨S32768x256, .f32⟩
  | .hbm, ⟨85, _⟩ => ⟨S16x256x2048, .f32⟩
  | .hbm, ⟨86, _⟩ => ⟨S32768x768, .bf16⟩
  | .hbm, ⟨87, _⟩ => ⟨S32768x512, .bf16⟩
  | .hbm, ⟨88, _⟩ => ⟨S32768x768, .bf16⟩
  | .hbm, ⟨89, _⟩ => ⟨S32768x256, .bf16⟩
  | .hbm, ⟨90, _⟩ => ⟨S32768x32, .bf16⟩
  | .hbm, ⟨91, _⟩ => ⟨S32768x512, .bf16⟩
  | .hbm, ⟨92, _⟩ => ⟨S32768x512, .bf16⟩
  | .hbm, ⟨93, _⟩ => ⟨S32768x256, .bf16⟩
  | .hbm, ⟨94, _⟩ => ⟨S16x256x2048, .bf16⟩
  | .hbm, ⟨95, _⟩ => ⟨S16x16x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Band.lean ====
abbrev S16x2048x768 : Shape := ⟨3, ![16, 2048, 768]⟩
abbrev S4x256x768 : Shape := ⟨3, ![4, 256, 768]⟩
abbrev S16x2048x256 : Shape := ⟨3, ![16, 2048, 256]⟩
abbrev S1x256x256 : Shape := ⟨3, ![1, 256, 256]⟩
abbrev S1x2048x256 : Shape := ⟨3, ![1, 2048, 256]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S512x64 : Shape := ⟨2, ![512, 64]⟩
abbrev S256x512 : Shape := ⟨2, ![256, 512]⟩
abbrev S1x256x512 : Shape := ⟨3, ![1, 256, 512]⟩
abbrev S1x768x256 : Shape := ⟨3, ![1, 768, 256]⟩
abbrev S768x256 : Shape := ⟨2, ![768, 256]⟩
abbrev S768x64 : Shape := ⟨2, ![768, 64]⟩
abbrev S256x768 : Shape := ⟨2, ![256, 768]⟩
abbrev S1x256x768 : Shape := ⟨3, ![1, 256, 768]⟩

abbrev nBuf : Space → Nat
  | .hbm => 3
  | .vmem => 9
  | .smem => 0
  | _ => 0

abbrev bufTy : (tb : Table) → Fin (tcTables nBuf tb) → BufTy
  | .hbm, ⟨0, _⟩ => ⟨S16x2048x768, .bf16⟩
  | .hbm, ⟨1, _⟩ => ⟨S4x256x768, .f32⟩
  | .hbm, ⟨2, _⟩ => ⟨S16x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S4x256x768, .f32⟩
  | .local _ .vmem, ⟨7, _⟩ => ⟨S1x256x256, .bf16⟩
  | .local _ .vmem, ⟨8, _⟩ => ⟨S1x256x256, .bf16⟩
  | _, _ => ⟨S16x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandRefIdeal.lean ====
abbrev S16x2048x768 : Shape := ⟨3, ![16, 2048, 768]⟩
abbrev S4x256x768 : Shape := ⟨3, ![4, 256, 768]⟩
abbrev S16x2048x256 : Shape := ⟨3, ![16, 2048, 256]⟩
abbrev S16x2048x4x64 : Shape := ⟨4, ![16, 2048, 4, 64]⟩
abbrev S16x4x2048x2048 : Shape := ⟨4, ![16, 4, 2048, 2048]⟩
abbrev S_ : Shape := ⟨0, ![]⟩
abbrev S4x256x256 : Shape := ⟨3, ![4, 256, 256]⟩
abbrev S4x1x256x1x256 : Shape := ⟨5, ![4, 1, 256, 1, 256]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x1x8x1 : Shape := ⟨5, ![1, 8, 1, 8, 1]⟩
abbrev S4x8x256x8x256 : Shape := ⟨5, ![4, 8, 256, 8, 256]⟩
abbrev S4x2048x2048 : Shape := ⟨3, ![4, 2048, 2048]⟩
abbrev S1x4x2048x2048 : Shape := ⟨4, ![1, 4, 2048, 2048]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x768, .bf16⟩
  | .hbm, ⟨1, _⟩ => ⟨S4x256x768, .f32⟩
  | .hbm, ⟨2, _⟩ => ⟨S16x2048x768, .f32⟩
  | .hbm, ⟨3, _⟩ => ⟨S16x2048x256, .f32⟩
  | .hbm, ⟨4, _⟩ => ⟨S16x2048x256, .f32⟩
  | .hbm, ⟨5, _⟩ => ⟨S16x2048x256, .f32⟩
  | .hbm, ⟨6, _⟩ => ⟨S16x2048x4x64, .f32⟩
  | .hbm, ⟨7, _⟩ => ⟨S16x2048x4x64, .f32⟩
  | .hbm, ⟨8, _⟩ => ⟨S16x2048x4x64, .f32⟩
  | .hbm, ⟨9, _⟩ => ⟨S16x4x2048x2048, .f32⟩
  | .hbm, ⟨10, _⟩ => ⟨S_, .f32⟩
  | .hbm, ⟨11, _⟩ => ⟨S16x4x2048x2048, .f32⟩
  | .hbm, ⟨12, _⟩ => ⟨S16x4x2048x2048, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S4x1x256x1x256, .f32⟩
  | .hbm, ⟨17, _⟩ => ⟨S4x1x256x1x256, .f32⟩
  | .hbm, ⟨18, _⟩ => ⟨S4x1x256x1x256, .f32⟩
  | .hbm, ⟨19, _⟩ => ⟨S8, .i32⟩
  | .hbm, ⟨20, _⟩ => ⟨S8x1, .i32⟩
  | .hbm, ⟨21, _⟩ => ⟨S1x8, .i32⟩
  | .hbm, ⟨22, _⟩ => ⟨S8x8, .i32⟩
  | .hbm, ⟨23, _⟩ => ⟨S8x8, .i32⟩
  | .hbm, ⟨24, _⟩ => ⟨S8x8, .i32⟩
  | .hbm, ⟨25, _⟩ => ⟨S1x8x1x8x1, .i32⟩
  | .hbm, ⟨26, _⟩ => ⟨S_, .i32⟩
  | .hbm, ⟨27, _⟩ => ⟨S1x8x1x8x1, .i32⟩
  | .hbm, ⟨28, _⟩ => ⟨S1x8x1x8x1, .i1⟩
  | .hbm, ⟨29, _⟩ => ⟨S_, .i32⟩
  | .hbm, ⟨30, _⟩ => ⟨S1x8x1x8x1, .i32⟩
  | .hbm, ⟨31, _⟩ => ⟨S1x8x1x8x1, .i1⟩
  | .hbm, ⟨32, _⟩ => ⟨S_, .i32⟩
  | .hbm, ⟨33, _⟩ => ⟨S1x8x1x8x1, .i32⟩
  | .hbm, ⟨34, _⟩ => ⟨S1x8x1x8x1, .i1⟩
  | .hbm, ⟨35, _⟩ => ⟨S_, .f32⟩
  | .hbm, ⟨36, _⟩ => ⟨S_, .f32⟩
  | .hbm, ⟨37, _⟩ => ⟨S4x8x256x8x256, .i1⟩
  | .hbm, ⟨38, _⟩ => ⟨S4x8x256x8x256, .f32⟩
  | .hbm, ⟨39, _⟩ => ⟨S4x8x256x8x256, .f32⟩
  | .hbm, ⟨40, _⟩ => ⟨S4x8x256x8x256, .f32⟩
  | .hbm, ⟨41, _⟩ => ⟨S4x8x256x8x256, .i1⟩
  | .hbm, ⟨42, _⟩ => ⟨S4x8x256x8x256, .f32⟩
  | .hbm, ⟨43, _⟩ => ⟨S4x8x256x8x256, .f32⟩
  | .hbm, ⟨44, _⟩ => ⟨S4x8x256x8x256, .i1⟩
  | .hbm, ⟨45, _⟩ => ⟨S4x8x256x8x256, .f32⟩
  | .hbm, ⟨46, _⟩ => ⟨S4x8x256x8x256, .f32⟩
  | .hbm, ⟨47, _⟩ => ⟨S4x2048x2048, .f32⟩
  | .hbm, ⟨48, _⟩ => ⟨S1x4x2048x2048, .f32⟩
  | .hbm, ⟨49, _⟩ => ⟨S16x4x2048x2048, .f32⟩
  | .hbm, ⟨50, _⟩ => ⟨S16x4x2048x2048, .f32⟩
  | .hbm, ⟨51, _⟩ => ⟨S_, .f32⟩
  | .hbm, ⟨52, _⟩ => ⟨S16x4x2048, .f32⟩
  | .hbm, ⟨53, _⟩ => ⟨S_, .f32⟩
  | .hbm, ⟨54, _⟩ => ⟨S16x4x2048, .f32⟩
  | .hbm, ⟨55, _⟩ => ⟨S16x4x2048, .f32⟩
  | .hbm, ⟨56, _⟩ => ⟨S16x4x2048x1, .f32⟩
  | .hbm, ⟨57, _⟩ => ⟨S16x4x2048x2048, .f32⟩
  | .hbm, ⟨58, _⟩ => ⟨S16x4x2048x2048, .f32⟩
  | .hbm, ⟨59, _⟩ => ⟨S16x4x2048x2048, .f32⟩
  | .hbm, ⟨60, _⟩ => ⟨S_, .f32⟩
  | .hbm, ⟨61, _⟩ => ⟨S16x4x2048, .f32⟩
  | .hbm, ⟨62, _⟩ => ⟨S16x4x2048x1, .f32⟩
  | .hbm, ⟨63, _⟩ => ⟨S16x4x2048x2048, .f32⟩
  | .hbm, ⟨64, _⟩ => ⟨S16x4x2048x2048, .f32⟩
  | .hbm, ⟨65, _⟩ => ⟨S16x4x64x2048, .f32⟩
  | .hbm, ⟨66, _⟩ => ⟨S16x2048x4x64, .f32⟩
  | .hbm, ⟨67, _⟩ => ⟨S16x2048x256, .f32⟩
  | .hbm, ⟨68, _⟩ => ⟨S16x2048x256, .bf16⟩
  | _, _ => ⟨S16x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_v29 : Ref sig .tc := ⟨.hbm, 40, rfl⟩
abbrev main_call1_v0 : Ref sig .tc := ⟨.hbm, 41, rfl⟩
abbrev main_call1_v1 : Ref sig .tc := ⟨.hbm, 42, rfl⟩
abbrev main_v30 : Ref sig .tc := ⟨.hbm, 43, rfl⟩
abbrev main_call2_v0 : Ref sig .tc := ⟨.hbm, 44, rfl⟩
abbrev main_call2_v1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Cum.lean ====
abbrev S16x16x2048 : Shape := ⟨3, ![16, 16, 2048]⟩
abbrev S8x1 : Shape := ⟨2, ![8, 1]⟩
abbrev S16x8x2048 : Shape := ⟨3, ![16, 8, 2048]⟩
abbrev S1x8x2048 : Shape := ⟨3, ![1, 8, 2048]⟩
abbrev S8x2048 : Shape := ⟨2, ![8, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16x16x2048, .f32⟩
  | .hbm, ⟨1, _⟩ => ⟨S8x1, .f32⟩
  | .hbm, ⟨2, _⟩ => ⟨S16x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S8x1, .f32⟩
  | .local _ .vmem, ⟨3, _⟩ => ⟨S1x8x2048, .f32⟩
  | .local _ .vmem, ⟨4, _⟩ => ⟨S1x8x2048, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumRefIdeal.lean ====
abbrev S16x16x2048 : Shape := ⟨3, ![16, 16, 2048]⟩
abbrev S8x1 : Shape := ⟨2, ![8, 1]⟩
abbrev S16x8x2048 : Shape := ⟨3, ![16, 8, 2048]⟩
abbrev S1x8x1 : Shape := ⟨3, ![1, 8, 1]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x1x2048 : Shape := ⟨4, ![16, 8, 1, 2048]⟩
abbrev S16x8x2048x2048 : Shape := ⟨4, ![16, 8, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S8x1, .f32⟩
  | .hbm, ⟨2, _⟩ => ⟨S16x8x2048, .f32⟩
  | .hbm, ⟨3, _⟩ => ⟨S1x8x1, .f32⟩
  | .hbm, ⟨4, _⟩ => ⟨S16x8x2048, .f32⟩
  | .hbm, ⟨5, _⟩ => ⟨S16x8x2048, .f32⟩
  | .hbm, ⟨6, _⟩ => ⟨S16x8x2048, .f32⟩
  | .hbm, ⟨7, _⟩ => ⟨S_, .f32⟩
  | .hbm, ⟨8, _⟩ => ⟨S16x8x2048, .f32⟩
  | .hbm, ⟨9, _⟩ => ⟨S16x8x2048, .f32⟩
  | .hbm, ⟨10, _⟩ => ⟨S16x8x2048, .f32⟩
  | .hbm, ⟨11, _⟩ => ⟨S16x8x2048, .f32⟩
  | .hbm, ⟨12, _⟩ => ⟨S16x8x2048, .i1⟩
  | .hbm, ⟨13, _⟩ => ⟨S16x8x2048, .f32⟩
  | .hbm, ⟨14, _⟩ => ⟨S16x8x2048, .f32⟩
  | .hbm, ⟨15, _⟩ => ⟨S16x8x2048, .f32⟩
  | .hbm, ⟨16, _⟩ => ⟨S16x8x2048, .f32⟩
  | .hbm, ⟨17, _⟩ => ⟨S16x8x2048, .f32⟩
  | .hbm, ⟨18, _⟩ => ⟨S16x8x2048, .f32⟩
  | .hbm, ⟨19, _⟩ => ⟨S16x8x2048, .f32⟩
  | .hbm, ⟨20, _⟩ => ⟨S16x8x2048, .f32⟩
  | .hbm, ⟨21, _⟩ => ⟨S16x8x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S16x8x1x2048, .f32⟩
  | .hbm, ⟨29, _⟩ => ⟨S_, .f32⟩
  | .hbm, ⟨30, _⟩ => ⟨S_, .f32⟩
  | .hbm, ⟨31, _⟩ => ⟨S16x8x2048x2048, .i1⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S_, .f32⟩
  | .hbm, ⟨36, _⟩ => ⟨S16x8x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩

abbrev nD : Nat := 1
abbrev τ : Topo := Topo.v7x

variable {F : FTy → Type} [FloatOps F]
-- ==== Proof.MoeBlock.lean ====
/-
  What one grid point of the mixture-of-experts kernel leaves in its scratch and in its output block, as values of the
  printed operations.
-/
module

public import proofs.«01_k».proof.Proof.Gen.MoeIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Cert.MoeIdeal Cert.MoeIdeal.Gen

namespace Cert.MoeIdeal.Value

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four gated activations of one expert group, side by side: a row block `xb`, the group's gates `g` and its
    gate-up weights `w`. -/
def act (xb : Vec F S1024x1024 .bf16) (g : Vec F S1x1024x4 .f32) (w : Vec F S1x4x1024x512 .bf16) :
    FVec F S1024x1024 .bf16 :=
  k0_pay11 xb (k0_pay6 g)
    (k0_pay7 xb g (View.ld w (Rect.unit (s := S1x4x1024x512) ![0, 0, 0, 0] S1x1x1024x512.size inb_S1x4x1024x512_S1x1x1024x512_0_0_0_0)))
    (k0_pay8 xb (View.ld w (Rect.unit (s := S1x4x1024x512) ![0, 1, 0, 0] S1x1x1024x512.size inb_S1x4x1024x512_S1x1x1024x512_0_1_0_0)))
    (k0_pay9 g)
    (View.ld w (Rect.unit (s := S1x4x1024x512) ![0, 2, 0, 0] S1x1x1024x512.size inb_S1x4x1024x512_S1x1x1024x512_0_2_0_0))
    (View.ld w (Rect.unit (s := S1x4x1024x512) ![0, 3, 0, 0] S1x1x1024x512.size inb_S1x4x1024x512_S1x1x1024x512_0_3_0_0))

/-- One expert group's step: the accumulator `acc` plus the group's activations times its down weights `d`. -/
def step (acc : Vec F S1024x1024 .f32) (xb : Vec F S1024x1024 .bf16) (g : Vec F S1x1024x4 .f32)
    (w : Vec F S1x4x1024x512 .bf16) (d : Vec F S1x4x256x1024 .bf16) : FVec F S1024x1024 .f32 :=
  k0_pay1 (k0_pay10 d) acc (act xb g w) (constant S1024x1024 .f32 0x00000000#32)

/-- In the middle of a run the accumulator takes one step. -/
theorem sout_B_0 (c : Dev nD) (i : grid0.Coords) (arg2 : Memref sig .tc .vmem S1024x1024 .f32) (harg2 : arg2.IsWhole) (arg3 : Memref sig .tc .vmem S1x1024x4 .f32) (harg3 : arg3.IsWhole) (arg4 : Memref sig .tc .vmem S1x4x1024x512 .bf16) (harg4 : arg4.IsWhole) (arg5 : Memref sig .tc .vmem S1x4x256x1024 .bf16) (harg5 : arg5.IsWhole) (arg6 : Memref sig .tc .vmem S1024x512 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i)
    (x0 : Vec F S1024x1024 .f32) (x1 : Vec F S1x1024x4 .f32) (x2 : Vec F S1x4x1024x512 .bf16) (x3 : Vec F S1x4x256x1024 .bf16) (x4 : Vec F S1024x512 .bf16) (x5 : Vec F S256x1024 .bf16) (x6 : Vec F S1x1024 .f32) (x7 : Vec F S1x1024 .f32) (xs0 : Vec F S1024x1024 .f32) (xs1 : Vec F S1024x1024 .bf16) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = step xs0 xs1 x1 x2 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero hz]
  simp only [View.readAt_eq_ld, harg3.read_unread, harg4.read_unread, harg5.read_unread, harg11.read_unread, harg12.read_unread, View.ld_unit_zero (S := S1024x1024) hz, View.ld_unit_zero (S := S1x1024x4) hz3, View.ld_unit_zero (S := S1x4x256x1024) hz4]
  rfl

/-- The first point of a run: the shared expert, then one step on it. -/
theorem sout_A_0 (c : Dev nD) (i : grid0.Coords) (arg2 : Memref sig .tc .vmem S1024x1024 .f32) (harg2 : arg2.IsWhole) (arg3 : Memref sig .tc .vmem S1x1024x4 .f32) (harg3 : arg3.IsWhole) (arg4 : Memref sig .tc .vmem S1x4x1024x512 .bf16) (harg4 : arg4.IsWhole) (arg5 : Memref sig .tc .vmem S1x4x256x1024 .bf16) (harg5 : arg5.IsWhole) (arg6 : Memref sig .tc .vmem S1024x512 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i)
    (x0 : Vec F S1024x1024 .f32) (x1 : Vec F S1x1024x4 .f32) (x2 : Vec F S1x4x1024x512 .bf16) (x3 : Vec F S1x4x256x1024 .bf16) (x4 : Vec F S1024x512 .bf16) (x5 : Vec F S256x1024 .bf16) (x6 : Vec F S1x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = step (k0_pay5 x0 x4 x5) (k0_pay4 x0) x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x512) hz, View.ld_unit_zero (S := S256x1024) hz, View.ld_unit_zero (S := S1x1024) hz, View.ld_unit_zero (S := S1x1024x4) hz3, View.ld_unit_zero (S := S1x4x256x1024) hz4]
  rfl

/-- The first point of a run: the row block, kept for the points after it. -/
theorem sout_A_1 (c : Dev nD) (i : grid0.Coords) (arg2 : Memref sig .tc .vmem S1024x1024 .f32) (harg2 : arg2.IsWhole) (arg3 : Memref sig .tc .vmem S1x1024x4 .f32) (harg3 : arg3.IsWhole) (arg4 : Memref sig .tc .vmem S1x4x1024x512 .bf16) (harg4 : arg4.IsWhole) (arg5 : Memref sig .tc .vmem S1x4x256x1024 .bf16) (harg5 : arg5.IsWhole) (arg6 : Memref sig .tc .vmem S1024x512 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i)
    (x0 : Vec F S1024x1024 .f32) (x1 : Vec F S1x1024x4 .f32) (x2 : Vec F S1x4x1024x512 .bf16) (x3 : Vec F S1x4x256x1024 .bf16) (x4 : Vec F S1024x512 .bf16) (x5 : Vec F S256x1024 .bf16) (x6 : Vec F S1x1024 .f32) (x7 : Vec F S1x1024 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7
      = k0_pay4 x0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_unit_zero (S := S1024x1024) hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x512) hz, View.ld_unit_zero (S := S256x1024) hz, View.ld_unit_zero (S := S1x1024) hz, View.ld_unit_zero (S := S1x1024x4) hz3, View.ld_unit_zero (S := S1x4x256x1024) hz4]

/-- The last point of a run: the accumulator takes one step. -/
theorem sout_C_0 (c : Dev nD) (i : grid0.Coords) (arg2 : Memref sig .tc .vmem S1024x1024 .f32) (harg2 : arg2.IsWhole) (arg3 : Memref sig .tc .vmem S1x1024x4 .f32) (harg3 : arg3.IsWhole) (arg4 : Memref sig .tc .vmem S1x4x1024x512 .bf16) (harg4 : arg4.IsWhole) (arg5 : Memref sig .tc .vmem S1x4x256x1024 .bf16) (harg5 : arg5.IsWhole) (arg6 : Memref sig .tc .vmem S1024x512 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i)
    (x0 : Vec F S1024x1024 .f32) (x1 : Vec F S1x1024x4 .f32) (x2 : Vec F S1x4x1024x512 .bf16) (x3 : Vec F S1x4x256x1024 .bf16) (x4 : Vec F S1024x512 .bf16) (x5 : Vec F S256x1024 .bf16) (x6 : Vec F S1x1024 .f32) (x7 : Vec F S1x1024 .f32) (xs0 : Vec F S1024x1024 .f32) (xs1 : Vec F S1024x1024 .bf16) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = step xs0 xs1 x1 x2 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero (S := S1024x1024) hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x512) hz, View.ld_unit_zero (S := S256x1024) hz, View.ld_unit_zero (S := S1x1024) hz, View.ld_unit_zero (S := S1x1024x4) hz3, View.ld_unit_zero (S := S1x4x256x1024) hz4]
  rfl

/-- The last point of a run: the output block, the layer norm of the row block and the accumulator. -/
theorem out_C_8 (c : Dev nD) (i : grid0.Coords) (arg2 : Memref sig .tc .vmem S1024x1024 .f32) (harg2 : arg2.IsWhole) (arg3 : Memref sig .tc .vmem S1x1024x4 .f32) (harg3 : arg3.IsWhole) (arg4 : Memref sig .tc .vmem S1x4x1024x512 .bf16) (harg4 : arg4.IsWhole) (arg5 : Memref sig .tc .vmem S1x4x256x1024 .bf16) (harg5 : arg5.IsWhole) (arg6 : Memref sig .tc .vmem S1024x512 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i)
    (x0 : Vec F S1024x1024 .f32) (x1 : Vec F S1x1024x4 .f32) (x2 : Vec F S1x4x1024x512 .bf16) (x3 : Vec F S1x4x256x1024 .bf16) (x4 : Vec F S1024x512 .bf16) (x5 : Vec F S256x1024 .bf16) (x6 : Vec F S1x1024 .f32) (x7 : Vec F S1x1024 .f32) (xs0 : Vec F S1024x1024 .f32) (xs1 : Vec F S1024x1024 .bf16) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = k0_pay2 x0 (step xs0 xs1 x1 x2 x3) x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero (S := S1024x1024) hz, View.readCov_unit_zero (S := S1024x1024) _ hz]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) hz, View.ld_unit_zero (S := S1024x512) hz, View.ld_unit_zero (S := S256x1024) hz, View.ld_unit_zero (S := S1x1024) hz, View.ld_unit_zero (S := S1x1024x4) hz3, View.ld_unit_zero (S := S1x4x256x1024) hz4]
  rfl

end Cert.MoeIdeal.Value
-- ==== Proof.MoeSpec.lean ====
/-
  The mixture-of-experts feed-forward of one row, over the extended reals: what both the kernel and the reference compute.
-/
module

public import Idealize.ShloMosaic.Lib.Pointwise

@[expose] public section

noncomputable section

open Idealize.ShloMosaic

namespace Cert.MoeSpec

/-- `silu(s) * u`. -/
def glu (s u : EReal) : EReal := Ideal.div s (1 + Ideal.exp (0 - s)) * u

/-- The gate-up product of a row `x` with weights `w`, at column `j`. -/
def hid (x : Fin 1024 → EReal) (w : Fin 1024 → Fin 512 → EReal) (j : Fin 512) : EReal := ∑ k, x k * w k j

/-- The gated activation at column `f`: the first 256 columns gate the last 256. -/
def ffn (x : Fin 1024 → EReal) (w : Fin 1024 → Fin 512 → EReal) (f : Fin 256) : EReal :=
  glu (hid x w ⟨f.val, by omega⟩) (hid x w ⟨256 + f.val, by omega⟩)

/-- One routed expert with gate `g`: the gated activations times `g`, through one column `d` of the down weights. -/
def expert (x : Fin 1024 → EReal) (w : Fin 1024 → Fin 512 → EReal) (g : EReal) (d : Fin 256 → EReal) : EReal :=
  ∑ f, ffn x w f * g * d f

/-- The shared expert: no gate. -/
def shared (x : Fin 1024 → EReal) (w : Fin 1024 → Fin 512 → EReal) (d : Fin 256 → EReal) : EReal :=
  ∑ f, ffn x w f * d f

/-- The residual scale and the two constants of the layer norm, as the words both programs hold. -/
abbrev alpha : EReal := Ideal.ofBits FTy.f32 0x3FD744FD#32
abbrev width : EReal := Ideal.ofBits FTy.f32 0x44800000#32
abbrev eps : EReal := Ideal.ofBits FTy.f32 0x3727C5AC#32

/-- The row's mean. -/
def mean (y : Fin 1024 → EReal) : EReal := Ideal.div (∑ k, y k) width

/-- The layer norm of a row `y` with gain `a` and offset `b`, at column `l`. -/
def lnorm (y a b : Fin 1024 → EReal) (l : Fin 1024) : EReal :=
  (y l - mean y) * Ideal.rsqrt (mean (fun k => (y k - mean y) * (y k - mean y)) + eps) * a l + b l

/-- A quotient by `1 + exp(-s)` is the product with its reciprocal: the divisor is at least one. -/
theorem div_logistic (s : EReal) :
    Ideal.div s (1 + Ideal.exp (0 - s)) = s * Ideal.div 1 (1 + Ideal.exp (-s)) := by
  rw [zero_sub]
  have h0 : (0 : EReal) ≤ Ideal.exp (-s) := by
    unfold Ideal.exp; split <;> first | exact le_rfl | exact le_top | exact EReal.coe_nonneg.mpr (Real.exp_pos _).le
  have h1 : (1 + Ideal.exp (-s)) ≠ 0 := by
    intro h
    have : (1 : EReal) ≤ 1 + Ideal.exp (-s) := le_add_of_nonneg_right h0
    rw [h] at this
    exact absurd this (by norm_num)
  unfold Ideal.div
  rw [if_neg h1, if_neg h1, one_mul]

end Cert.MoeSpec
-- ==== Proof.MoeKernel.lean ====
/-
  The mixture-of-experts kernel at the ideal instance: what one grid point computes, read at an index; the fold of a
  token block's sixteen points; the result array.
-/
module

public import proofs.«01_k».proof.Proof.MoeBlock
public import proofs.«01_k».proof.Proof.MoeSpec

@[expose] public section

set_option maxRecDepth 16384

noncomputable section

open Idealize.ShloMosaic Idealize.ShloMosaic.TcCoe Idealize.SL.Sem
open Cert.MoeIdeal Cert.MoeIdeal.Gen Cert.MoeSpec

namespace Cert.MoeIdeal.Value

/-! ## One point, read at an index -/

/-- The gated activation of expert `e` at column `f`, its gate on it. -/
def piece (xb : Vec Ideal S1024x1024 .bf16) (g : Vec Ideal S1x1024x4 .f32) (w : Vec Ideal S1x4x1024x512 .bf16)
    (r : Fin 1024) (e : Fin 4) (f : Fin 256) : EReal :=
  ffn (fun k => xb (ix2 r k)) (fun k j => w (ix4 0 e k j)) f * g (ix3 0 r e)

/-- The group's activations at column `q`, by cases on the expert. -/
theorem act_cases (xb : Vec Ideal S1024x1024 .bf16) (g : Vec Ideal S1x1024x4 .f32) (w : Vec Ideal S1x4x1024x512 .bf16)
    (r q : Fin 1024) :
    act xb g w (ix2 r q)
      = if h : q.val < 256 then piece xb g w r 0 ⟨q.val, h⟩
        else if h : q.val - 256 < 256 then piece xb g w r 1 ⟨q.val - 256, h⟩
        else if h : q.val - 256 - 256 < 256 then piece xb g w r 2 ⟨q.val - 256 - 256, h⟩
        else piece xb g w r 3 ⟨q.val - 256 - 256 - 256, by omega⟩ := by
  pointwise [act, k0_pay11, k0_pay7, k0_pay8, k0_pay9, k0_pay6, piece, ffn, hid, glu]

/-- The group's activations at column `q`: the expert is `q / 256`, its column `q % 256`. -/
theorem act_at (xb : Vec Ideal S1024x1024 .bf16) (g : Vec Ideal S1x1024x4 .f32) (w : Vec Ideal S1x4x1024x512 .bf16)
    (r q : Fin 1024) (e : Fin 4) (f : Fin 256) (hq : q.val = e.val * 256 + f.val) :
    act xb g w (ix2 r q) = piece xb g w r e f := by
  have hf := f.isLt
  have he := e.isLt
  have hp : ∀ (e' : Fin 4) (f' : Fin 256), e' = e → f' = f → piece xb g w r e' f' = piece xb g w r e f :=
    fun e' f' h1 h2 => by rw [h1, h2]
  rw [act_cases]
  split
  · exact hp _ _ (Fin.ext (by show 0 = e.val; omega)) (Fin.ext (by show q.val = f.val; omega))
  split
  · exact hp _ _ (Fin.ext (by show 1 = e.val; omega)) (Fin.ext (by show q.val - 256 = f.val; omega))
  split
  · exact hp _ _ (Fin.ext (by show 2 = e.val; omega)) (Fin.ext (by show q.val - 256 - 256 = f.val; omega))
  · exact hp _ _ (Fin.ext (by show 3 = e.val; omega)) (Fin.ext (by show q.val - 256 - 256 - 256 = f.val; omega))

/-- The group's down weights, its four experts one under another. -/
theorem down_apply (d : Vec Ideal S1x4x256x1024 .bf16) (e : Fin 4) (f : Fin 256) (l : Fin 1024)
    (h : e.val * 256 + f.val < 1024) :
    k0_pay10 d (ix2 ⟨e.val * 256 + f.val, h⟩ l) = d (ix4 0 e f l) := by
  have he := e.isLt
  have hf := f.isLt
  pointwise [k0_pay10]

/-- One step adds the group's four experts. -/
theorem step_apply (acc : Vec Ideal S1024x1024 .f32) (xb : Vec Ideal S1024x1024 .bf16) (g : Vec Ideal S1x1024x4 .f32)
    (w : Vec Ideal S1x4x1024x512 .bf16) (d : Vec Ideal S1x4x256x1024 .bf16) (r l : Fin 1024) :
    step acc xb g w d (ix2 r l)
      = acc (ix2 r l) + ∑ e : Fin 4, expert (fun k => xb (ix2 r k)) (fun k j => w (ix4 0 e k j)) (g (ix3 0 r e))
          (fun f => d (ix4 0 e f l)) := by
  pointwise [step, k0_pay1]
  rw [Fin.sum_univ_tiles 4 256 rfl]
  refine congrArg (acc (ix2 r l) + ·) (Finset.sum_congr rfl fun e _ => Finset.sum_congr rfl fun f _ => ?_)
  rw [act_at xb g w r _ e f rfl, down_apply]
  rfl

/-- The shared expert. -/
theorem shared_apply (x : Vec Ideal S1024x1024 .f32) (w : Vec Ideal S1024x512 .bf16) (d : Vec Ideal S256x1024 .bf16)
    (r l : Fin 1024) :
    k0_pay5 x w d (ix2 r l) = shared (fun k => x (ix2 r k)) (fun k j => w (ix2 k j)) (fun f => d (ix2 f l)) := by
  pointwise [k0_pay5, k0_pay3, shared, ffn, hid, glu]

/-- The row block kept in the scratch is the row block. -/
theorem keep_apply (x : Vec Ideal S1024x1024 .f32) (r k : Fin 1024) : k0_pay4 x (ix2 r k) = x (ix2 r k) := by
  pointwise [k0_pay4, k0_pay3]

/-- The output block: the layer norm of the scaled row plus the accumulator. -/
theorem final_apply (x acc : Vec Ideal S1024x1024 .f32) (a b : Vec Ideal S1x1024 .f32) (r l : Fin 1024) :
    k0_pay2 x acc a b (ix2 r l)
      = lnorm (fun k => alpha * x (ix2 r k) + acc (ix2 r k)) (fun k => a (ix2 0 k)) (fun k => b (ix2 0 k)) l := by
  pointwise [k0_pay2]
  rfl

/-! ## The input blocks -/

variable (m : (ℓ : Loc nD τ sig) → Buf (Elt Ideal) ℓ)

/-- The arguments, by name. -/
abbrev aX (c : Dev nD) : Vec Ideal S32768x1024 .f32 := m ((c.tc : Thread nD τ).loc main_arg0)
abbrev aG (c : Dev nD) : Vec Ideal S16x32768x4 .f32 := m ((c.tc : Thread nD τ).loc main_arg1)
abbrev aW (c : Dev nD) : Vec Ideal S4x64x1024x512 .bf16 := m ((c.tc : Thread nD τ).loc main_arg2)
abbrev aD (c : Dev nD) : Vec Ideal S4x64x256x1024 .bf16 := m ((c.tc : Thread nD τ).loc main_arg3)
abbrev aSW (c : Dev nD) : Vec Ideal S1024x512 .bf16 := m ((c.tc : Thread nD τ).loc main_arg4)
abbrev aSD (c : Dev nD) : Vec Ideal S256x1024 .bf16 := m ((c.tc : Thread nD τ).loc main_arg5)
abbrev aA (c : Dev nD) : Vec Ideal S1x1024 .f32 := m ((c.tc : Thread nD τ).loc main_arg6)
abbrev aB (c : Dev nD) : Vec Ideal S1x1024 .f32 := m ((c.tc : Thread nD τ).loc main_arg7)

/-- The windows' block indices at point `t`, decided over the grid. -/
theorem wfacts : ∀ t : Fin cfg0.N, win0_0.index t (0 : Fin 2) = t.val / 16 ∧ win0_0.index t (1 : Fin 2) = 0
    ∧ win0_1.index t (0 : Fin 3) = t.val % 16 ∧ win0_1.index t (1 : Fin 3) = t.val / 16 ∧ win0_1.index t (2 : Fin 3) = 0
    ∧ win0_2.index t = ![3, t.val % 16, 0, 0] ∧ win0_3.index t = ![3, t.val % 16, 0, 0]
    ∧ win0_4.index t = ![0, 0] ∧ win0_5.index t = ![0, 0] ∧ win0_6.index t = ![0, 0] ∧ win0_7.index t = ![0, 0] :=
  (by decide +kernel : ∀ t : Fin grid0.N, _)

/-- Row `r` of token block `n`. -/
def row (n : ℕ) (r : Fin 1024) : Fin 32768 := ⟨(1024 * n + r.val) % 32768, Nat.mod_lt _ (by decide)⟩
/-- Expert `e` of group `p`. -/
def ex (p : ℕ) (e : Fin 4) : Fin 64 := ⟨(4 * p + e.val) % 64, Nat.mod_lt _ (by decide)⟩
/-- Group `p`. -/
def gp (p : ℕ) : Fin 16 := ⟨p % 16, Nat.mod_lt _ (by decide)⟩

theorem blk_0 (c : Dev nD) (t : Fin cfg0.N) (r k : Fin 1024) :
    iblk m c 0 t (ix2 r k) = aX m c (ix2 (row (t.val / 16) r) k) := by
  have hN := lt_of_lt_of_eq t.isLt (show cfg0.N = 512 from N_0)
  obtain ⟨e0, e1, -⟩ := wfacts t
  have hr := r.isLt
  unfold iblk
  rw [View.read_apply]
  refine congrArg (aX m c) (funext fun a => Fin.ext ?_)
  match a with
  | ⟨0, _⟩ => show win0_0.index t (0 : Fin 2) * 1024 + 1 * r.val = (1024 * (t.val / 16) + r.val) % 32768; omega
  | ⟨1, _⟩ => show win0_0.index t (1 : Fin 2) * 1024 + 1 * k.val = k.val; omega

theorem blk_1 (c : Dev nD) (t : Fin cfg0.N) (r : Fin 1024) (e : Fin 4) :
    iblk m c 1 t (ix3 0 r e) = aG m c (ix3 (gp (t.val % 16)) (row (t.val / 16) r) e) := by
  have hN := lt_of_lt_of_eq t.isLt (show cfg0.N = 512 from N_0)
  obtain ⟨-, -, e0, e1, e2, -⟩ := wfacts t
  have hr := r.isLt
  unfold iblk
  rw [View.read_apply]
  refine congrArg (aG m c) (funext fun a => Fin.ext ?_)
  match a with
  | ⟨0, _⟩ => show win0_1.index t (0 : Fin 3) * 1 + 1 * 0 = t.val % 16 % 16; omega
  | ⟨1, _⟩ => show win0_1.index t (1 : Fin 3) * 1024 + 1 * r.val = (1024 * (t.val / 16) + r.val) % 32768; omega
  | ⟨2, _⟩ => show win0_1.index t (2 : Fin 3) * 4 + 1 * e.val = e.val; omega

theorem blk_2 (c : Dev nD) (t : Fin cfg0.N) (e : Fin 4) (k : Fin 1024) (j : Fin 512) :
    iblk m c 2 t (ix4 0 e k j) = aW m c (ix4 3 (ex (t.val % 16) e) k j) := by
  obtain ⟨-, -, -, -, -, e2, -⟩ := wfacts t
  have he := e.isLt
  have i0 : win0_2.index t (0 : Fin 4) = 3 := congrFun e2 0
  have i1 : win0_2.index t (1 : Fin 4) = t.val % 16 := congrFun e2 1
  have i2 : win0_2.index t (2 : Fin 4) = 0 := congrFun e2 2
  have i3 : win0_2.index t (3 : Fin 4) = 0 := congrFun e2 3
  unfold iblk
  rw [View.read_apply]
  refine congrArg (aW m c) (funext fun a => Fin.ext ?_)
  match a with
  | ⟨0, _⟩ => show win0_2.index t (0 : Fin 4) * 1 + 1 * 0 = 3; omega
  | ⟨1, _⟩ => show win0_2.index t (1 : Fin 4) * 4 + 1 * e.val = (4 * (t.val % 16) + e.val) % 64; omega
  | ⟨2, _⟩ => show win0_2.index t (2 : Fin 4) * 1024 + 1 * k.val = k.val; omega
  | ⟨3, _⟩ => show win0_2.index t (3 : Fin 4) * 512 + 1 * j.val = j.val; omega

theorem blk_3 (c : Dev nD) (t : Fin cfg0.N) (e : Fin 4) (f : Fin 256) (l : Fin 1024) :
    iblk m c 3 t (ix4 0 e f l) = aD m c (ix4 3 (ex (t.val % 16) e) f l) := by
  obtain ⟨-, -, -, -, -, -, e3, -⟩ := wfacts t
  have he := e.isLt
  have i0 : win0_3.index t (0 : Fin 4) = 3 := congrFun e3 0
  have i1 : win0_3.index t (1 : Fin 4) = t.val % 16 := congrFun e3 1
  have i2 : win0_3.index t (2 : Fin 4) = 0 := congrFun e3 2
  have i3 : win0_3.index t (3 : Fin 4) = 0 := congrFun e3 3
  unfold iblk
  rw [View.read_apply]
  refine congrArg (aD m c) (funext fun a => Fin.ext ?_)
  match a with
  | ⟨0, _⟩ => show win0_3.index t (0 : Fin 4) * 1 + 1 * 0 = 3; omega
  | ⟨1, _⟩ => show win0_3.index t (1 : Fin 4) * 4 + 1 * e.val = (4 * (t.val % 16) + e.val) % 64; omega
  | ⟨2, _⟩ => show win0_3.index t (2 : Fin 4) * 256 + 1 * f.val = f.val; omega
  | ⟨3, _⟩ => show win0_3.index t (3 : Fin 4) * 1024 + 1 * l.val = l.val; omega

theorem blk_4 (c : Dev nD) (t : Fin cfg0.N) (k : Fin 1024) (j : Fin 512) :
    iblk m c 4 t (ix2 k j) = aSW m c (ix2 k j) := by
  obtain ⟨-, -, -, -, -, -, -, e4, -⟩ := wfacts t
  have i0 : win0_4.index t (0 : Fin 2) = 0 := congrFun e4 0
  have i1 : win0_4.index t (1 : Fin 2) = 0 := congrFun e4 1
  unfold iblk
  rw [View.read_apply]
  refine congrArg (aSW m c) (funext fun a => Fin.ext ?_)
  match a with
  | ⟨0, _⟩ => show win0_4.index t (0 : Fin 2) * 1024 + 1 * k.val = k.val; omega
  | ⟨1, _⟩ => show win0_4.index t (1 : Fin 2) * 512 + 1 * j.val = j.val; omega

theorem blk_5 (c : Dev nD) (t : Fin cfg0.N) (f : Fin 256) (l : Fin 1024) :
    iblk m c 5 t (ix2 f l) = aSD m c (ix2 f l) := by
  obtain ⟨-, -, -, -, -, -, -, -, e5, -⟩ := wfacts t
  have i0 : win0_5.index t (0 : Fin 2) = 0 := congrFun e5 0
  have i1 : win0_5.index t (1 : Fin 2) = 0 := congrFun e5 1
  unfold iblk
  rw [View.read_apply]
  refine congrArg (aSD m c) (funext fun a => Fin.ext ?_)
  match a with
  | ⟨0, _⟩ => show win0_5.index t (0 : Fin 2) * 256 + 1 * f.val = f.val; omega
  | ⟨1, _⟩ => show win0_5.index t (1 : Fin 2) * 1024 + 1 * l.val = l.val; omega

theorem blk_6 (c : Dev nD) (t : Fin cfg0.N) (k : Fin 1024) : iblk m c 6 t (ix2 0 k) = aA m c (ix2 0 k) := by
  obtain ⟨-, -, -, -, -, -, -, -, -, e6, -⟩ := wfacts t
  have i0 : win0_6.index t (0 : Fin 2) = 0 := congrFun e6 0
  have i1 : win0_6.index t (1 : Fin 2) = 0 := congrFun e6 1
  unfold iblk
  rw [View.read_apply]
  refine congrArg (aA m c) (funext fun a => Fin.ext ?_)
  match a with
  | ⟨0, _⟩ => show win0_6.index t (0 : Fin 2) * 1 + 1 * 0 = 0; omega
  | ⟨1, _⟩ => show win0_6.index t (1 : Fin 2) * 1024 + 1 * k.val = k.val; omega

theorem blk_7 (c : Dev nD) (t : Fin cfg0.N) (k : Fin 1024) : iblk m c 7 t (ix2 0 k) = aB m c (ix2 0 k) := by
  obtain ⟨-, -, -, -, -, -, -, -, -, -, e7⟩ := wfacts t
  have i0 : win0_7.index t (0 : Fin 2) = 0 := congrFun e7 0
  have i1 : win0_7.index t (1 : Fin 2) = 0 := congrFun e7 1
  unfold iblk
  rw [View.read_apply]
  refine congrArg (aB m c) (funext fun a => Fin.ext ?_)
  match a with
  | ⟨0, _⟩ => show win0_7.index t (0 : Fin 2) * 1 + 1 * 0 = 0; omega
  | ⟨1, _⟩ => show win0_7.index t (1 : Fin 2) * 1024 + 1 * k.val = k.val; omega

/-! ## The fold over a token block's points -/

/-- What group `p` adds to row `n` at column `l`. -/
def group (c : Dev nD) (n : Fin 32768) (l : Fin 1024) (p : ℕ) : EReal :=
  ∑ e : Fin 4, expert (fun k => aX m c (ix2 n k)) (fun k j => aW m c (ix4 3 (ex p e) k j)) (aG m c (ix3 (gp p) n e))
    (fun f => aD m c (ix4 3 (ex p e) f l))

/-- What the shared expert gives row `n` at column `l`. -/
def sharedAt (c : Dev nD) (n : Fin 32768) (l : Fin 1024) : EReal :=
  shared (fun k => aX m c (ix2 n k)) (fun k j => aSW m c (ix2 k j)) (fun f => aSD m c (ix2 f l))

/-- One step at point `t`, on a row block that the scratch holds. -/
theorem step_at (c : Dev nD) (t : Fin cfg0.N) (acc : Vec Ideal S1024x1024 .f32) (xb : Vec Ideal S1024x1024 .bf16)
    (hx : ∀ r k : Fin 1024, xb (ix2 r k) = aX m c (ix2 (row (t.val / 16) r) k)) (r l : Fin 1024) :
    step acc xb (iblk m c 1 t) (iblk m c 2 t) (iblk m c 3 t) (ix2 r l)
      = acc (ix2 r l) + group m c (row (t.val / 16) r) l (t.val % 16) := by
  rw [step_apply]
  unfold group
  refine congrArg (acc (ix2 r l) + ·) (Finset.sum_congr rfl fun e _ => ?_)
  rw [blk_1]
  simp only [hx, blk_2, blk_3]

/-- After point `n` the scratch holds the row block, and the accumulator the shared expert and the groups so far. -/
theorem fold (c : Dev nD) : ∀ (n : ℕ) (h : n < cfg0.N),
    (∀ r k : Fin 1024, (outsAt0 m c n h).2.2 (ix2 r k) = aX m c (ix2 (row (n / 16) r) k))
    ∧ ∀ r l : Fin 1024, (outsAt0 m c n h).2.1 (ix2 r l)
        = sharedAt m c (row (n / 16) r) l + ∑ p ∈ Finset.range (n % 16 + 1), group m c (row (n / 16) r) l p := by
  intro n
  induction n with
  | zero =>
    intro h
    have hA := outsAt0_A m c ⟨0, h⟩ (Nat.zero_mod _) (by show ¬ 0 % 16 = 15; omega)
    dsimp only at hA
    rw [hA]
    dsimp only
    rw [sout_A_1, sout_A_0]
    have hk : ∀ r k : Fin 1024, k0_pay4 (iblk m c 0 ⟨0, h⟩) (ix2 r k) = aX m c (ix2 (row (0 / 16) r) k) := fun r k =>
      (keep_apply _ r k).trans (blk_0 m c ⟨0, h⟩ r k)
    refine ⟨hk, fun r l => ?_⟩
    rw [step_at m c ⟨0, h⟩ _ _ hk, shared_apply]
    simp only [blk_0, blk_4, blk_5]
    rw [show (0 % 16 + 1) = 1 from rfl, Finset.sum_range_one]
    rfl
  | succ n ih =>
    intro h
    have hN := lt_of_lt_of_eq h (show cfg0.N = 512 from N_0)
    obtain ⟨ihx, iha⟩ := ih (Nat.lt_of_succ_lt h)
    by_cases h0 : (n + 1) % 16 = 0
    · have hA := outsAt0_A m c ⟨n + 1, h⟩ h0 (by show ¬ (n + 1) % 16 = 15; omega)
      dsimp only at hA
      rw [hA]
      dsimp only
      rw [sout_A_1, sout_A_0]
      have hk : ∀ r k : Fin 1024, k0_pay4 (iblk m c 0 ⟨n + 1, h⟩) (ix2 r k) = aX m c (ix2 (row ((n + 1) / 16) r) k) :=
        fun r k => (keep_apply _ r k).trans (blk_0 m c ⟨n + 1, h⟩ r k)
      refine ⟨hk, fun r l => ?_⟩
      rw [step_at m c ⟨n + 1, h⟩ _ _ hk, shared_apply]
      simp only [blk_0, blk_4, blk_5]
      rw [h0, Finset.sum_range_one]
      rfl
    · have hd : (n + 1) / 16 = n / 16 := by omega
      have hm : (n + 1) % 16 = n % 16 + 1 := by omega
      have hx : ∀ r k : Fin 1024, (outsAt0 m c n (Nat.lt_of_succ_lt h)).2.2 (ix2 r k)
          = aX m c (ix2 (row ((n + 1) / 16) r) k) := fun r k => by rw [hd]; exact ihx r k
      by_cases h1 : (n + 1) % 16 = 15
      · have hC := outsAt0_C m c ⟨n + 1, h⟩ h0 h1
        dsimp only at hC
        rw [hC]
        dsimp only
        rw [sout_C_0]
        refine ⟨hx, fun r l => ?_⟩
        refine (step_at m c ⟨n + 1, h⟩ _ _ hx r l).trans ?_
        show (outsAt0 m c n (Nat.lt_of_succ_lt h)).2.1 (ix2 r l) + _ = _
        rw [iha]
        show _ + group m c (row ((n + 1) / 16) r) l ((n + 1) % 16) = _
        rw [hd, hm, Finset.sum_range_succ _ (n % 16 + 1), add_assoc]
      · have hB := outsAt0_B m c ⟨n + 1, h⟩ h0 h1
        dsimp only at hB
        rw [hB]
        dsimp only
        rw [sout_B_0]
        refine ⟨hx, fun r l => ?_⟩
        refine (step_at m c ⟨n + 1, h⟩ _ _ hx r l).trans ?_
        show (outsAt0 m c n (Nat.lt_of_succ_lt h)).2.1 (ix2 r l) + _ = _
        rw [iha]
        show _ + group m c (row ((n + 1) / 16) r) l ((n + 1) % 16) = _
        rw [hd, hm, Finset.sum_range_succ _ (n % 16 + 1), add_assoc]

/-- The row before its layer norm: the scaled row, the shared expert and the sixteen groups. -/
def preNorm (c : Dev nD) (n : Fin 32768) (k : Fin 1024) : EReal :=
  alpha * aX m c (ix2 n k) + (sharedAt m c n k + ∑ p ∈ Finset.range 16, group m c n k p)

/-- What the last point of a token block's run stores into the output block. -/
theorem out_at (c : Dev nD) (t : Fin cfg0.N) (h1 : t.val % 16 = 15) (r l : Fin 1024) :
    (outsAt0 m c t.val t.isLt).1 (ix2 r l)
      = lnorm (preNorm m c (row (t.val / 16) r)) (fun k => aA m c (ix2 0 k)) (fun k => aB m c (ix2 0 k)) l := by
  have h0 : ¬ t.val % 16 = 0 := by omega
  have hf := fold m c t.val t.isLt
  have hC := outsAt0_C m c t h0 h1
  rw [hC] at hf
  dsimp only at hf
  rw [sout_C_0] at hf
  rw [hC]
  dsimp only
  rw [out_C_8, final_apply]
  simp only [blk_0, blk_6, blk_7, hf.2, h1]
  rfl

/-- The result array at row `n`, column `l`. -/
theorem G8_apply (c : Dev nD) (n : Fin 32768) (l : Fin 1024) :
    (G8 m c : Vec Ideal S32768x1024 .f32) (ix2 n l)
      = lnorm (preNorm m c n) (fun k => aA m c (ix2 0 k)) (fun k => aB m c (ix2 0 k)) l := by
  have hn := n.isLt
  have hl := l.isLt
  have hN : cfg0.N = 512 := N_0
  have hrun : run8Of (ix2 n l) = n.val / 1024 := by
    show 1 * (n.val / 1024 - 0) + 1 * (l.val / 1024 - 0) = _
    omega
  have hlt : pt8Of (ix2 n l) < cfg0.N := by unfold pt8Of; rw [hrun, hN]; omega
  have e : (G8 m c : Vec Ideal S32768x1024 .f32) (ix2 n l) = (outsAt0 m c (pt8Of (ix2 n l)) hlt).1 (loc8Of (ix2 n l)) := by
    rw [outsAt0_sweep m c _ hlt]
    exact dif_pos hlt
  rw [e]
  have hloc : loc8Of (ix2 n l) = ix2 ⟨n.val % 1024, Nat.mod_lt _ (by decide)⟩ l := by
    funext a; apply Fin.ext
    match a with
    | ⟨0, _⟩ => rfl
    | ⟨1, _⟩ => exact Nat.mod_eq_of_lt hl
  rw [hloc]
  have hpt : pt8Of (ix2 n l) = 16 * (n.val / 1024) + 15 := by unfold pt8Of; rw [hrun]
  refine (out_at m c ⟨pt8Of (ix2 n l), hlt⟩ (by show pt8Of (ix2 n l) % 16 = 15; omega) _ l).trans ?_
  have hrow : row (pt8Of (ix2 n l) / 16) ⟨n.val % 1024, Nat.mod_lt _ (by decide)⟩ = n := by
    apply Fin.ext
    show (1024 * (pt8Of (ix2 n l) / 16) + n.val % 1024) % 32768 = n.val
    omega
  show lnorm (preNorm m c (row (pt8Of (ix2 n l) / 16) _)) _ _ l = _
  rw [hrow]

end Cert.MoeIdeal.Value
-- ==== Proof.MoeRef.lean ====
/-
  The mixture-of-experts reference at the ideal instance, read at an index.
-/
module

public import proofs.«01_k».proof.Proof.Gen.MoeRefIdeal.Read
public import proofs.«01_k».proof.Proof.MoeSpec

@[expose] public section

set_option maxRecDepth 16384

noncomputable section

open Idealize.ShloMosaic Idealize.ShloMosaic.TcCoe Idealize.SL.Sem
open Cert.MoeRefIdeal Cert.MoeRefIdeal.Gen Cert.MoeRefIdeal.Read Cert.MoeSpec

namespace Cert.MoeRefIdeal.Value

variable (x0 : Vec Ideal S32768x1024 .f32) (x1 : Vec Ideal S16x32768x4 .f32) (x2 : Vec Ideal S4x64x1024x512 .bf16)
  (x3 : Vec Ideal S4x64x256x1024 .bf16) (x4 : Vec Ideal S1024x512 .bf16) (x5 : Vec Ideal S256x1024 .bf16)
  (x6 x7 : Vec Ideal S1x1024 .f32)

/-- The routed gate-up product. -/
theorem v11_at (e : Fin 64) (n : Fin 32768) (j : Fin 512) :
    val_main_v11 (F := Ideal) x0 x2 (ix3 e n j) = hid (fun k => x0 (ix2 n k)) (fun k j => x2 (ix4 3 e k j)) j := by
  pointwise [val_main_v11, val_main_v10, val_main_v4, val_main_v3, val_main_v2, hid, mul_comm]

/-- The routed activations, gated. -/
theorem v18_at (e : Fin 64) (n : Fin 32768) (f : Fin 256) :
    val_main_v18 (F := Ideal) x0 x1 x2 (ix3 e n f)
      = ffn (fun k => x0 (ix2 n k)) (fun k j => x2 (ix4 3 e k j)) f
          * x1 (ix3 ⟨e.val / 4, by omega⟩ n ⟨e.val % 4, by omega⟩) := by
  pointwise [val_main_v18, val_main_v15, val_main_v13, val_main_call0_v5, val_main_call0_v4, val_main_call0_cst_0, val_main_call0_v3, val_main_call0_v2, val_main_call0_cst, val_main_call0_v1, val_main_call0_v0, val_main_v12, val_main_v14, val_main_v17, val_main_v16, val_main_v1, val_main_v0]
  rw [v11_at, v11_at]
  unfold ffn glu
  rw [div_logistic]

/-- The shared gate-up product. -/
theorem v21_at (n : Fin 32768) (j : Fin 512) :
    val_main_v21 (F := Ideal) x0 x4 (ix2 n j) = hid (fun k => x0 (ix2 n k)) (fun k j => x4 (ix2 k j)) j := by
  pointwise [val_main_v21, val_main_v8, hid]

/-- The shared activations. -/
theorem v25_at (n : Fin 32768) (f : Fin 256) :
    val_main_v25 (F := Ideal) x0 x4 (ix2 n f) = ffn (fun k => x0 (ix2 n k)) (fun k j => x4 (ix2 k j)) f := by
  pointwise [val_main_v25, val_main_v23, val_main_call1_v5, val_main_call1_v4, val_main_call1_cst_0, val_main_call1_v3, val_main_call1_v2, val_main_call1_cst, val_main_call1_v1, val_main_call1_v0, val_main_v22, val_main_v24]
  rw [v21_at, v21_at]
  unfold ffn glu
  rw [div_logistic]

/-- The row before its layer norm. -/
theorem v30_at (n : Fin 32768) (l : Fin 1024) :
    val_main_v30 (F := Ideal) x0 x1 x2 x3 x4 x5 (ix2 n l)
      = alpha * x0 (ix2 n l)
        + ((∑ e : Fin 64, expert (fun k => x0 (ix2 n k)) (fun k j => x2 (ix4 3 e k j))
              (x1 (ix3 ⟨e.val / 4, by omega⟩ n ⟨e.val % 4, by omega⟩)) (fun f => x3 (ix4 3 e f l)))
          + shared (fun k => x0 (ix2 n k)) (fun k j => x4 (ix2 k j)) (fun f => x5 (ix2 f l))) := by
  pointwise [val_main_v30, val_main_v28, val_main_v27, val_main_cst_0, val_main_v29, val_main_v26, val_main_v20, val_main_cst, val_main_v19, val_main_v7, val_main_v6, val_main_v5, val_main_v9, v18_at, v25_at, expert, shared]

/-- The reference's result: the layer norm of that row. -/
theorem v52_at (n : Fin 32768) (l : Fin 1024) :
    val_main_v52 (F := Ideal) x0 x1 x2 x3 x4 x5 x6 x7 (ix2 n l)
      = lnorm (fun k => val_main_v30 (F := Ideal) x0 x1 x2 x3 x4 x5 (ix2 n k)) (fun k => x6 (ix2 0 k)) (fun k => x7 (ix2 0 k)) l := by
  pointwise [val_main_v52, val_main_v51, val_main_v50, val_main_v49, val_main_v48, val_main_v47, val_main_v46, val_main_v45, val_main_v44, val_main_cst_5, val_main_v43, val_main_v42, val_main_v41, val_main_v40, val_main_cst_4, val_main_v39, val_main_v38, val_main_cst_3, val_main_v37, val_main_v36, val_main_v35, val_main_v34, val_main_v33, val_main_cst_2, val_main_v32, val_main_v31, val_main_cst_1, lnorm, mean]

end Cert.MoeRefIdeal.Value
-- ==== Proof.MoeEq.lean ====
/-
  The mixture of experts: the kernel's result and the reference's are the same array of the same arguments.
-/
module

public import proofs.«01_k».proof.Proof.MoeKernel
public import proofs.«01_k».proof.Proof.MoeRef

@[expose] public section

set_option maxRecDepth 16384

noncomputable section

open Idealize.ShloMosaic Idealize.ShloMosaic.TcCoe Idealize.SL.Sem
open Cert.MoeIdeal Cert.MoeIdeal.Gen Cert.MoeIdeal.Value Cert.MoeSpec

namespace Cert.MoeEq

variable (m : (ℓ : Loc nD τ sig) → Buf (Elt Ideal) ℓ)

/-- Sixteen groups of four experts are the sixty-four experts. -/
theorem groups (c : Dev nD) (n : Fin 32768) (l : Fin 1024) :
    ∑ p ∈ Finset.range 16, group m c n l p
      = ∑ e : Fin 64, expert (fun k => aX m c (ix2 n k)) (fun k j => aW m c (ix4 3 e k j))
          (aG m c (ix3 ⟨e.val / 4, by omega⟩ n ⟨e.val % 4, by omega⟩)) (fun f => aD m c (ix4 3 e f l)) := by
  rw [Finset.sum_range]
  refine Eq.trans ?_ (Fin.sum_univ_tiles 16 4 (by decide) _).symm
  refine Finset.sum_congr rfl fun p _ => Finset.sum_congr rfl fun e _ => ?_
  have he : ex p.val e = (⟨p.val * 4 + e.val, by omega⟩ : Fin 64) := Fin.ext (by show (4 * p.val + e.val) % 64 = p.val * 4 + e.val; omega)
  have hp : gp p.val = (⟨(p.val * 4 + e.val) / 4, by omega⟩ : Fin 16) := Fin.ext (by show p.val % 16 = (p.val * 4 + e.val) / 4; omega)
  have hq : e = (⟨(p.val * 4 + e.val) % 4, by omega⟩ : Fin 4) := Fin.ext (by show e.val = (p.val * 4 + e.val) % 4; omega)
  rw [he, hp]
  exact congrArg (fun q => expert _ _ (aG m c (ix3 _ n q)) _) hq

/-- The row before its layer norm, as the reference writes it, is the kernel's. -/
theorem rows (c : Dev nD) (n : Fin 32768) (k : Fin 1024) :
    Cert.MoeRefIdeal.Read.val_main_v30 (F := Ideal) (aX m c) (aG m c) (aW m c) (aD m c) (aSW m c) (aSD m c) (ix2 n k)
      = preNorm m c n k := by
  rw [Cert.MoeRefIdeal.Value.v30_at]
  unfold preNorm
  rw [groups, add_comm (sharedAt m c n k)]
  rfl

/-- The two results are one array. -/
theorem result (c : Dev nD) :
    Cert.MoeRefIdeal.Read.val_main_v52 (F := Ideal) (aX m c) (aG m c) (aW m c) (aD m c) (aSW m c) (aSD m c) (aA m c) (aB m c)
      = G8 m c := by
  funext i
  rw [show i = ix2 (i 0) (i 1) from (funext fun a => by match a with | ⟨0, _⟩ => rfl | ⟨1, _⟩ => rfl)]
  refine (Cert.MoeRefIdeal.Value.v52_at _ _ _ _ _ _ _ _ (i 0) (i 1)).trans ?_
  rw [funext fun k => rows m c (i 0) k]
  exact (G8_apply m c (i 0) (i 1)).symm

end Cert.MoeEq

end
-- ==== Proof.AttnSoft.lean ====
/-
  Softmax attention of one tile of 256 queries over the first `W` keys, for every width `W`: the operations a kernel
  performs, and their values at an index.
-/
module

public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.Attn

/-- A matrix of `a` rows and `b` columns. -/
abbrev Mat (a b : ℕ) : Shape := ⟨2, ![a, b]⟩

/-- A vector of `a` entries. -/
abbrev Row (a : ℕ) : Shape := ⟨1, ![a]⟩

/-- The word of the least float is the bottom of the extended reals. -/
theorem least : Ideal.ofBits .f32 0xFF800000#32 = ⊥ := by simp [Ideal.ofBits, Ideal.ieee]

/-- Two matrix indices with the same coordinates are the same. -/
theorem mat_ext {a b : ℕ} {i j : (Mat a b).Idx} (h0 : (i 0).val = (j 0).val) (h1 : (i 1).val = (j 1).val) : i = j :=
  funext fun x => Fin.ext (match x with | ⟨0, _⟩ => h0 | ⟨1, _⟩ => h1)

/-- A plain product at an index. -/
theorem plain_at {M K N : ℕ} (x : (Mat M K).Idx → EReal) (y : (Mat K N).Idx → EReal) (z : (Mat M N).Idx → EReal)
    (r : Fin M) (c : Fin N) :
    Ideal.matmul (DotDims.plain M K N) x y z (ix2 r c) = z (ix2 r c) + ∑ k : Fin K, x (ix2 r k) * y (ix2 k c) :=
  Ideal.matmul_apply₁_of _ (a := 1) rfl rfl x y z _ (fun k => ix2 r k) (fun k => ix2 k c)
    (fun _ => mat_ext rfl rfl) fun _ => mat_ext rfl rfl

/-- A product with a transposed right factor at an index. -/
theorem transposed_at {M K N : ℕ} (x : (Mat M K).Idx → EReal) (y : (Mat N K).Idx → EReal) (z : (Mat M N).Idx → EReal)
    (r : Fin M) (c : Fin N) :
    Ideal.matmul (DotDims.transposedRhs M K N) x y z (ix2 r c) = z (ix2 r c) + ∑ k : Fin K, x (ix2 r k) * y (ix2 c k) :=
  Ideal.matmul_apply₁_of _ (a := 1) rfl rfl x y z _ (fun k => ix2 r k) (fun k => ix2 c k)
    (fun _ => mat_ext rfl rfl) fun _ => mat_ext rfl rfl

/-- The largest of a row of scores. -/
def top {W : ℕ} (s : Fin W → EReal) : EReal := Finset.univ.fold max ⊥ s

/-- One query's attention: its scores' exponentials, shifted by the largest score, weigh the values. -/
def att {W : ℕ} (s v : Fin W → EReal) : EReal :=
  Ideal.div (∑ k, Ideal.exp (s k - top s) * v k) (∑ k, Ideal.exp (s k - top s))

section ops
variable (W : ℕ) (hR : (Mat 256 W).Reduces [1] (Row 256)) (hS : (Row 256).ShapeCasts (Mat 256 1))
  (hB : (Mat 256 1).Broadcasts (Mat 256 W)) (hB' : (Mat 256 1).Broadcasts (Mat 256 64))

/-- The exponentials of the scores, each row shifted by its largest. -/
def weights (s : FVec Ideal (Mat 256 W) .f32) : FVec Ideal (Mat 256 W) .f32 :=
  exp (subf s (broadcastTo (Mat 256 W) (shapeCast (Mat 256 1)
    (multiReduction .maximumf [1] (Row 256) s 0xFF800000#32 hR (.inl rfl) rfl) hS) hB))

/-- The weighted mean of the values, one head. -/
def soft (s : FVec Ideal (Mat 256 W) .f32) (v : FVec Ideal (Mat W 64) .bf16) : FVec Ideal (Mat 256 64) .f32 :=
  divf (matmul (DotDims.plain 256 W 64) none (truncf .bf16 (weights W hR hS hB s) (by decide)) v
      (constant (Mat 256 64) .f32 0x00000000#32))
    (broadcastTo (Mat 256 64) (shapeCast (Mat 256 1)
      (multiReduction .add [1] (Row 256) (weights W hR hS hB s) 0x00000000#32 hR (.inl rfl) rfl) hS) hB')

/-- The weights at an index. -/
theorem weights_at (s : FVec Ideal (Mat 256 W) .f32) (r : Fin 256) (k : Fin W) :
    weights W hR hS hB s (ix2 r k) = Ideal.exp (s (ix2 r k) - top fun k => s (ix2 r k)) := by
  pointwise [weights, top]
  rw [least]

/-- A head at an index. -/
theorem soft_at (s : FVec Ideal (Mat 256 W) .f32) (v : FVec Ideal (Mat W 64) .bf16) (r : Fin 256) (d : Fin 64) :
    soft W hR hS hB hB' s v (ix2 r d) = att (fun k => s (ix2 r k)) fun k => v (ix2 k d) := by
  pointwise [soft, weights_at, att]
  rw [plain_at]
  pointwise [weights_at]
end ops

section scores
variable (W D : ℕ) {C : ℕ}

/-- The scores of one head: the products of its slices of the queries and of the keys. -/
def scores {o : ℕ} (hq : (Mat 256 C).Slices ![0, o] (Mat 256 D)) (hk : (Mat W C).Slices ![0, o] (Mat W D))
    (q : FVec Ideal (Mat 256 C) .bf16) (k : FVec Ideal (Mat W C) .bf16) : FVec Ideal (Mat 256 W) .f32 :=
  matmul (DotDims.transposedRhs 256 D W) none (extractStridedSlice (Mat 256 D) ![0, o] q hq)
    (extractStridedSlice (Mat W D) ![0, o] k hk) (constant (Mat 256 W) .f32 0x00000000#32)

/-- The scores at an index. -/
theorem scores_at {o : ℕ} (hq : (Mat 256 C).Slices ![0, o] (Mat 256 D)) (hk : (Mat W C).Slices ![0, o] (Mat W D))
    (h : o + D ≤ C)
    (q : FVec Ideal (Mat 256 C) .bf16) (k : FVec Ideal (Mat W C) .bf16) (r : Fin 256) (s : Fin W) :
    scores W D hq hk q k (ix2 r s)
      = ∑ d : Fin D, q (ix2 r ⟨o + d.val, by omega⟩) * k (ix2 s ⟨o + d.val, by omega⟩) := by
  pointwise [scores]
  rw [transposed_at]
  pointwise []
  refine Finset.sum_congr rfl fun d _ => ?_
  exact congrArg₂ (· * ·) (congrArg q (mat_ext (Nat.zero_add _) rfl)) (congrArg k (mat_ext (Nat.zero_add _) rfl))
end scores

/-- The scores with the last 256 columns masked. -/
def maskTail (P W : ℕ) (h0 : (Mat 256 W).Slices ![0, 0] (Mat 256 P)) (h1 : (Mat 256 W).Slices ![0, P] (Mat 256 256))
    (hC : Shape.Concatenates [Mat 256 P, Mat 256 256] (Mat 256 W) 1) (ok : IVec (Mat 256 256) 1)
    (neg : FVec Ideal (Mat 256 256) .f32) (s : FVec Ideal (Mat 256 W) .f32) : FVec Ideal (Mat 256 W) .f32 :=
  concatenate (Mat 256 W) 1 [⟨Mat 256 P, extractStridedSlice (Mat 256 P) ![0, 0] s h0⟩,
    ⟨Mat 256 256, select ok (extractStridedSlice (Mat 256 256) ![0, P] s h1) neg⟩] hC

/-- The masked scores at an index. -/
theorem maskTail_at (P W : ℕ) (hW : W = P + 256) (h0 : (Mat 256 W).Slices ![0, 0] (Mat 256 P)) (h1 : (Mat 256 W).Slices ![0, P] (Mat 256 256))
    (hC : Shape.Concatenates [Mat 256 P, Mat 256 256] (Mat 256 W) 1) (ok : IVec (Mat 256 256) 1)
    (neg : FVec Ideal (Mat 256 256) .f32) (s : FVec Ideal (Mat 256 W) .f32) (r : Fin 256) (k : Fin W) :
    maskTail P W h0 h1 hC ok neg s (ix2 r k)
      = if h : k.val < P then s (ix2 r k) else
          if ok (ix2 r ⟨k.val - P, by omega⟩) = 1#1 then s (ix2 r k) else neg (ix2 r ⟨k.val - P, by omega⟩) := by
  subst hW
  pointwise [maskTail]
  split
  · exact congrArg s (mat_ext (Nat.zero_add _) (Nat.zero_add _))
  · rename_i h
    refine ite_congr rfl (fun _ => congrArg s (mat_ext (Nat.zero_add _) ?_)) fun _ => rfl
    show P + (k.val - P) = k.val
    omega

end Cert.Attn

end
-- ==== Proof.AttnMath.lean ====
/-
  Softmax attention over finite scores: a kernel's form, which divides once at the end, and a reference's, which divides
  each weight, are the same weighted mean of any values, whatever the masked tail and whatever constant is added to the
  scores.
-/
module

public import proofs.«01_k».proof.Proof.AttnSoft

@[expose] public section

noncomputable section

open Idealize.ShloMosaic

namespace Cert.Attn

/-- The mean of the first `n` values, weighed by the exponentials of their scores. -/
def mean (n : ℕ) (l : ℕ → ℝ) (x : ℕ → EReal) : EReal :=
  ∑ k ∈ Finset.range n, x k * ((Real.exp (l k) / ∑ i ∈ Finset.range n, Real.exp (l i) : ℝ) : EReal)

/-- A constant taken from every score changes no mean. -/
theorem mean_shift (n : ℕ) (l : ℕ → ℝ) (x : ℕ → EReal) (c : ℝ) : mean n (fun k => l k - c) x = mean n l x := by
  unfold mean
  simp only [sub_eq_add_neg, Real.exp_add]
  rw [← Finset.sum_mul]
  simp only [mul_div_mul_right _ _ (Real.exp_ne_zero (-c))]

/-- A nonnegative real factor goes into a sum of any numbers. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A finite sum of reals is real. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A quotient of reals with a nonzero divisor is real. -/
theorem div_real (x : ℝ) {y : ℝ} (h : y ≠ 0) : Ideal.div (x : EReal) (y : EReal) = ((x / y : ℝ) : EReal) := by
  rw [Ideal.div_coe h, ← EReal.coe_mul, mul_one_div]

variable {W n : ℕ} {s v : Fin W → EReal} {l : ℕ → ℝ} {x : ℕ → EReal}

/-- The largest of the scores is real when the first `n > 0` are and the others are masked. -/
theorem top_real (hn : 0 < n) (hW : n ≤ W) (hs : ∀ k : Fin W, s k = if k.val < n then (l k.val : EReal) else ⊥) :
    ∃ μ : ℝ, top s = μ := by
  have lo : ((l 0 : ℝ) : EReal) ≤ top s := by
    unfold top
    rw [Finset.le_fold_max]
    exact Or.inr ⟨⟨0, by omega⟩, Finset.mem_univ _, by rw [hs, if_pos hn]⟩
  have hi : top s < ⊤ := by
    unfold top
    rw [Finset.fold_max_lt]
    refine ⟨bot_lt_top, fun k _ => ?_⟩
    rw [hs]
    split
    · exact EReal.coe_lt_top _
    · exact bot_lt_top
  exact ⟨(top s).toReal, (EReal.coe_toReal hi.ne (ne_of_gt (lt_of_lt_of_le (EReal.bot_lt_coe _) lo))).symm⟩

/-- A shifted score's exponential: real, and zero where masked. -/
theorem exp_masked (hs : ∀ k : Fin W, s k = if k.val < n then (l k.val : EReal) else ⊥) (μ : ℝ) (k : Fin W) :
    Ideal.exp (s k - μ) = ((if k.val < n then Real.exp (l k.val - μ) else 0 : ℝ) : EReal) := by
  rw [hs]
  split
  · rw [← EReal.coe_sub, Ideal.exp_coe]
  · rw [EReal.bot_sub, Ideal.exp_bot, EReal.coe_zero]

/-- A masked sum over the first `W` is a sum over the first `n`. -/
theorem sum_masked {M : Type*} [AddCommMonoid M] (hW : n ≤ W) (f : ℕ → M) :
    (∑ k : Fin W, if k.val < n then f k.val else 0) = ∑ k ∈ Finset.range n, f k := by
  rw [Fin.sum_univ_eq_sum_range (fun k => if k < n then f k else 0) W, ← Finset.sum_filter]
  refine Finset.sum_congr (Finset.ext fun k => ?_) fun _ _ => rfl
  simp only [Finset.mem_filter, Finset.mem_range]
  omega

/-- The sum of exponentials is positive. -/
theorem total_pos (hn : 0 < n) : 0 < ∑ k ∈ Finset.range n, Real.exp (l k) :=
  Finset.sum_pos (fun _ _ => Real.exp_pos _) ⟨0, Finset.mem_range.mpr hn⟩

/-- The weighted sum, divided at the end, is the mean. -/
theorem att_eq (hn : 0 < n) (hW : n ≤ W) (hs : ∀ k : Fin W, s k = if k.val < n then (l k.val : EReal) else ⊥)
    (hv : ∀ k : Fin W, v k = x k.val) : att s v = mean n l x := by
  obtain ⟨μ, hμ⟩ := top_real hn hW hs
  have pos := total_pos (l := fun k => l k - μ) hn
  have e : ∀ k : Fin W, Ideal.exp (s k - μ) * v k = if k.val < n then x k.val * (Real.exp (l k.val - μ) : EReal) else 0 := fun k => by
    rw [exp_masked hs, hv]
    split
    · exact mul_comm _ _
    · rw [EReal.coe_zero, zero_mul]
  unfold att
  rw [hμ]
  simp only [e]
  simp only [exp_masked hs]
  rw [← coe_sum, sum_masked hW (fun k => x k * (Real.exp (l k - μ) : EReal)), sum_masked hW (fun k => Real.exp (l k - μ)),
    Ideal.div_coe pos.ne', sum_mul_coe _ _ (one_div_pos.mpr pos).le, ← mean_shift n l x μ]
  unfold mean
  refine Finset.sum_congr rfl fun k _ => ?_
  rw [mul_assoc, ← EReal.coe_mul, mul_one_div]

/-- The values weighed by the normalized exponentials. -/
def attRef (s v : Fin W → EReal) : EReal :=
  ∑ k, v k * Ideal.div (Ideal.exp (s k - top s)) (∑ k, Ideal.exp (s k - top s))

/-- The sum of normalized weights times values is the mean. -/
theorem attRef_eq (hn : 0 < n) (hW : n ≤ W) (hs : ∀ k : Fin W, s k = if k.val < n then (l k.val : EReal) else ⊥)
    (hv : ∀ k : Fin W, v k = x k.val) : attRef s v = mean n l x := by
  obtain ⟨μ, hμ⟩ := top_real hn hW hs
  have pos := total_pos (l := fun k => l k - μ) hn
  unfold attRef
  rw [hμ]
  simp only [exp_masked hs, hv]
  rw [← coe_sum, sum_masked hW (fun k => Real.exp (l k - μ))]
  simp only [div_real _ pos.ne']
  rw [← mean_shift n l x μ]
  unfold mean
  rw [← sum_masked hW (fun k => x k * ((Real.exp (l k - μ) / ∑ i ∈ Finset.range n, Real.exp (l i - μ) : ℝ) : EReal))]
  refine Finset.sum_congr rfl fun k _ => ?_
  split
  · rfl
  · rw [zero_div, EReal.coe_zero, mul_zero]

end Cert.Attn

end
-- ==== Proof.AttnTile.lean ====
/-
  What the tiles of the two attentions share: four heads side by side, a leading axis dropped, a row repeated.
-/
module

public import proofs.«01_k».proof.Proof.AttnMath

@[expose] public section

set_option maxRecDepth 16384

noncomputable section

open Idealize.ShloMosaic Idealize.ShloMosaic.TcCoe Idealize.SL.Sem

namespace Cert.Attn

/-- `a` matrices of `b` rows and `c` columns. -/
abbrev Cube (a b c : ℕ) : Shape := ⟨3, ![a, b, c]⟩

/-- Four blocks of columns side by side. -/
def four (y0 y1 y2 y3 : FVec Ideal (Mat 256 64) .f32) : FVec Ideal (Mat 256 256) .f32 :=
  concatenate (Mat 256 256) 1 [⟨Mat 256 64, y0⟩, ⟨Mat 256 64, y1⟩, ⟨Mat 256 64, y2⟩, ⟨Mat 256 64, y3⟩]
    (show Shape.Concatenates [Mat 256 64, Mat 256 64, Mat 256 64, Mat 256 64] (Mat 256 256) 1 by decide)

/-- Four blocks of columns, the block of column `j` read at `j % 64`. -/
theorem four_at (y0 y1 y2 y3 : FVec Ideal (Mat 256 64) .f32) (f : ℕ → Fin 64 → EReal) (r : Fin 256)
    (e0 : ∀ d, y0 (ix2 r d) = f 0 d) (e1 : ∀ d, y1 (ix2 r d) = f 1 d) (e2 : ∀ d, y2 (ix2 r d) = f 2 d)
    (e3 : ∀ d, y3 (ix2 r d) = f 3 d) (j : Fin 256) :
    four y0 y1 y2 y3 (ix2 r j) = f (j.val / 64) ⟨j.val % 64, by omega⟩ := by
  pointwise [four, e0, e1, e2, e3]
  have g : ∀ (h : ℕ) (x : Fin 64), j.val = h * 64 + x.val → f h x = f (j.val / 64) ⟨j.val % 64, by omega⟩ := fun h x e => by
    have e1 : h = j.val / 64 := by omega
    have e2 : x = ⟨j.val % 64, by omega⟩ := Fin.ext (show x.val = j.val % 64 by omega)
    rw [e1, e2]
  split
  · exact g 0 _ (show j.val = 0 * 64 + j.val by omega)
  split
  · exact g 1 _ (show j.val = 1 * 64 + (j.val - 64) by omega)
  split
  · exact g 2 _ (show j.val = 2 * 64 + (j.val - 64 - 64) by omega)
  · exact g 3 _ (show j.val = 3 * 64 + (j.val - 64 - 64 - 64) by omega)

/-- A leading axis of one dropped, at an index. -/
theorem drop_at {a b : ℕ} {t : FTy} (x : FVec Ideal (Cube 1 a b) t) (h : (Cube 1 a b).ShapeCasts (Mat a b)) (i : Fin a) (j : Fin b) :
    shapeCast (Mat a b) x h (ix2 i j) = x (ix3 0 i j) :=
  (shapeCast_dropUnit_apply ![a, b] x h (ix2 i j)).trans
    (congrArg x (funext fun c => by match c with | ⟨0, _⟩ => rfl | ⟨1, _⟩ => rfl | ⟨2, _⟩ => rfl))

/-- A row repeated down a matrix, at an index. -/
theorem rows_at {W : ℕ} (x : FVec Ideal (Mat 1 W) .f32) (hb : (Mat 1 W).Broadcasts (Mat 256 W)) (r : Fin 256) (s : Fin W) :
    broadcastTo (Mat 256 W) x hb (ix2 r s) = x (ix2 0 s) := by
  pointwise []
  refine congrArg x (mat_ext rfl ?_)
  have e : ∀ h0 : 0 < W, (if _ : W = 1 then (⟨0, h0⟩ : Fin W) else ⟨s.val, s.isLt⟩).val = s.val := fun h0 => by
    split
    · show 0 = s.val
      omega
    · rfl
  exact e (Nat.lt_of_le_of_lt (Nat.zero_le _) s.isLt)

end Cert.Attn

end
-- ==== Proof.FoxTile.lean ====
/-
  One tile of the forgetting attention, 256 queries against the first `W` keys, for every width `W`: the operations the
  kernel performs, and their value at an index as a mean of the values.
-/
module

public import proofs.«01_k».proof.Proof.AttnTile

@[expose] public section

set_option maxRecDepth 16384

noncomputable section

open Idealize.ShloMosaic Idealize.ShloMosaic.TcCoe Idealize.SL.Sem Cert.Attn

namespace Cert.FoxTile

/-- The shape conditions of a tile of width `W`. -/
structure Fits (W : ℕ) : Prop where
  keys : (Cube 1 W 256).ShapeCasts (Mat W 256)
  decays : (Cube 1 8 W).ShapeCasts (Mat 8 W)
  head0 : (Mat W 256).Slices ![0, 0] (Mat W 64)
  head1 : (Mat W 256).Slices ![0, 64] (Mat W 64)
  head2 : (Mat W 256).Slices ![0, 128] (Mat W 64)
  head3 : (Mat W 256).Slices ![0, 192] (Mat W 64)
  decay0 : (Mat 8 W).Slices ![0, 0] (Mat 1 W)
  decay1 : (Mat 8 W).Slices ![1, 0] (Mat 1 W)
  decay2 : (Mat 8 W).Slices ![2, 0] (Mat 1 W)
  decay3 : (Mat 8 W).Slices ![3, 0] (Mat 1 W)
  decayRows : (Mat 1 W).Broadcasts (Mat 256 W)
  reduces : (Mat 256 W).Reduces [1] (Row 256)
  columns : (Mat 256 1).Broadcasts (Mat 256 W)

section
variable {W : ℕ} (fits : Fits W) (mask : FVec Ideal (Mat 256 W) .f32 → FVec Ideal (Mat 256 W) .f32)

/-- One head: its slices start at column `o`, its decay is row `h`. -/
def head {o h : ℕ} (hq : (Mat 256 256).Slices ![0, o] (Mat 256 64)) (hk : (Mat W 256).Slices ![0, o] (Mat W 64))
    (hc : (Mat 8 W).Slices ![h, 0] (Mat 1 W))
    (q : FVec Ideal (Mat 256 256) .bf16) (k v : FVec Ideal (Mat W 256) .bf16) (ck : FVec Ideal (Mat 8 W) .f32) :
    FVec Ideal (Mat 256 64) .f32 :=
  soft W fits.reduces (by decide) fits.columns (by decide)
    (mask (subf (scores W 64 hq hk q k) (broadcastTo (Mat 256 W) (extractStridedSlice (Mat 1 W) ![h, 0] ck hc) fits.decayRows)))
    (extractStridedSlice (Mat W 64) ![0, o] v hk)

/-- A tile: its four heads side by side. -/
def tile (q : FVec Ideal (Cube 1 256 256) .bf16) (k v : FVec Ideal (Cube 1 W 256) .bf16) (ck : FVec Ideal (Cube 1 8 W) .f32) :
    FVec Ideal (Cube 1 256 256) .bf16 :=
  have q' : FVec Ideal (Mat 256 256) .bf16 :=
    mulf (shapeCast (Mat 256 256) q (by decide)) (broadcast (Mat 256 256) (Scalar.ofBits .bf16 0x3E00#16))
  have k' : FVec Ideal (Mat W 256) .bf16 := shapeCast (Mat W 256) k fits.keys
  have v' : FVec Ideal (Mat W 256) .bf16 := shapeCast (Mat W 256) v fits.keys
  have c' : FVec Ideal (Mat 8 W) .f32 := shapeCast (Mat 8 W) ck fits.decays
  shapeCast (Cube 1 256 256) (truncf .bf16 (four
    (head fits mask (o := 0) (h := 0) (by decide) fits.head0 fits.decay0 q' k' v' c')
    (head fits mask (o := 64) (h := 1) (by decide) fits.head1 fits.decay1 q' k' v' c')
    (head fits mask (o := 128) (h := 2) (by decide) fits.head2 fits.decay2 q' k' v' c')
    (head fits mask (o := 192) (h := 3) (by decide) fits.head3 fits.decay3 q' k' v' c')) (by decide)) (by decide)

/-- The word of an eighth. -/
theorem eighth : Ideal.ofBits .bf16 0x3E00#16 = (((1 : ℝ) / 8 : ℝ) : EReal) := by
  simp [Ideal.ofBits, Ideal.ieee, -EReal.coe_mul]; norm_num

variable {P : ℕ} (hW : W = P + 256)
  (hmask : ∀ (s : FVec Ideal (Mat 256 W) .f32) (r : Fin 256) (k : Fin W),
    mask s (ix2 r k) = if k.val < P + r.val + 1 then s (ix2 r k) else ⊥)
  {qr kr cr : ℕ → ℕ → ℝ} {vr : ℕ → ℕ → EReal}

include hW hmask in
/-- One head at an index, over real operands. -/
theorem head_at {o h : ℕ} (ho : o + 64 ≤ 256) (hh : h < 4) (hq : (Mat 256 256).Slices ![0, o] (Mat 256 64))
    (hk : (Mat W 256).Slices ![0, o] (Mat W 64)) (hc : (Mat 8 W).Slices ![h, 0] (Mat 1 W))
    (q : FVec Ideal (Mat 256 256) .bf16) (k v : FVec Ideal (Mat W 256) .bf16) (ck : FVec Ideal (Mat 8 W) .f32)
    (eq : ∀ (r c : Fin 256), q (ix2 r c) = (qr r c : EReal)) (ek : ∀ (s : Fin W) (c : Fin 256), k (ix2 s c) = (kr s c : EReal))
    (ev : ∀ (s : Fin W) (c : Fin 256), v (ix2 s c) = vr s c)
    (ec : ∀ (g : Fin 8) (s : Fin W), g.val < 4 → ck (ix2 g s) = (cr g s : EReal))
    (r : Fin 256) (d : Fin 64) :
    head fits mask hq hk hc q k v ck (ix2 r d)
      = mean (P + r.val + 1) (fun s => (∑ d : Fin 64, qr r (o + d.val) * kr s (o + d.val)) - cr h s)
          (fun s => vr s (o + d.val)) := by
  unfold head
  rw [soft_at]
  refine att_eq (by omega) (by omega) (fun s => ?_) fun s => ?_
  · rw [hmask]
    refine if_congr Iff.rfl ?_ rfl
    refine Eq.trans (subf_apply _ _ _) ?_
    rw [scores_at W 64 hq hk ho, rows_at]
    simp only [eq, ek, ← EReal.coe_mul]
    rw [← coe_sum, EReal.coe_sub]
    refine congrArg (_ - ·) ?_
    exact Eq.trans (congrArg ck (mat_ext (j := ix2 ⟨h, by omega⟩ s) (Nat.add_zero _) (Nat.zero_add _))) (ec ⟨h, by omega⟩ s hh)
  · pointwise []
    exact Eq.trans (congrArg v (mat_ext (j := ix2 s ⟨o + d.val, by omega⟩) (Nat.zero_add _) rfl)) (ev s ⟨o + d.val, by omega⟩)

include hW hmask in
/-- A tile at an index, over real operands: each query's mean over the keys up to its own. -/
theorem tile_at (q : FVec Ideal (Cube 1 256 256) .bf16) (k v : FVec Ideal (Cube 1 W 256) .bf16) (ck : FVec Ideal (Cube 1 8 W) .f32)
    (eq : ∀ (r c : Fin 256), q (ix3 0 r c) = (qr r c : EReal)) (ek : ∀ (s : Fin W) (c : Fin 256), k (ix3 0 s c) = (kr s c : EReal))
    (ev : ∀ (s : Fin W) (c : Fin 256), v (ix3 0 s c) = vr s c)
    (ec : ∀ (g : Fin 8) (s : Fin W), g.val < 4 → ck (ix3 0 g s) = (cr g s : EReal))
    (r j : Fin 256) :
    tile fits mask q k v ck (ix3 0 r j)
      = mean (P + r.val + 1)
          (fun s => (∑ d : Fin 64, qr r (j.val / 64 * 64 + d.val) * (1 / 8) * kr s (j.val / 64 * 64 + d.val)) - cr (j.val / 64) s)
          (fun s => vr s j.val) := by
  have eq' : ∀ r c : Fin 256, mulf (shapeCast (Mat 256 256) q (by decide)) (broadcast (Mat 256 256) (Scalar.ofBits .bf16 0x3E00#16))
      (ix2 r c) = ((qr r c * (1 / 8) : ℝ) : EReal) := fun r c => by
    pointwise []
    rw [eq, eighth, ← EReal.coe_mul]
  have H : ∀ {o h : ℕ} (_ : o + 64 ≤ 256) (_ : h < 4) hq hk hc d, _ := fun {o h} ho hh hq hk hc d =>
    head_at fits mask hW hmask (o := o) (h := h) (qr := fun r c => qr r c * (1 / 8)) ho hh hq hk hc _ _ _ _ eq'
      (fun s c => (drop_at k fits.keys s c).trans (ek s c)) (fun s c => (drop_at v fits.keys s c).trans (ev s c))
      (fun g s hg => (drop_at ck fits.decays g s).trans (ec g s hg)) r d
  unfold tile
  refine Eq.trans (shapeCast_addUnit_apply ![256, 256] _ (by decide) (ix3 0 r j)) ?_
  rw [show (fun a : Fin 2 => ix3 (0 : Fin 1) r j a.succ) = ix2 r j from
    funext fun c => by match c with | ⟨0, _⟩ => rfl | ⟨1, _⟩ => rfl]
  show four _ _ _ _ (ix2 r j) = _
  refine Eq.trans (four_at _ _ _ _ (fun h d => mean (P + r.val + 1)
          (fun s => (∑ d : Fin 64, qr r (h * 64 + d.val) * (1 / 8) * kr s (h * 64 + d.val)) - cr h s)
          (fun s => vr s (h * 64 + d.val))) r
    (fun d => H (o := 0) (h := 0) (by decide) (by decide) _ _ _ d) (fun d => H (o := 64) (h := 1) (by decide) (by decide) _ _ _ d)
    (fun d => H (o := 128) (h := 2) (by decide) (by decide) _ _ _ d) (fun d => H (o := 192) (h := 3) (by decide) (by decide) _ _ _ d) j) ?_
  have e : j.val / 64 * 64 + j.val % 64 = j.val := by omega
  show (mean _ _ fun s => vr s (j.val / 64 * 64 + j.val % 64)) = _
  rw [e]
end

end Cert.FoxTile

end
-- ==== Proof.BandTile.lean ====
/-
  One tile of the banded attention, 256 queries against `W` keys, for every width `W`: the operations the kernel performs,
  and their value at an index as a mean of the values.
-/
module

public import proofs.«01_k».proof.Proof.FoxTile

@[expose] public section

set_option maxRecDepth 16384

noncomputable section

open Idealize.ShloMosaic Idealize.ShloMosaic.TcCoe Idealize.SL.Sem Cert.Attn

namespace Cert.BandTile

/-- The shape conditions of a tile of width `W`. -/
structure Fits (W : ℕ) : Prop where
  keys : (Cube 1 W 256).ShapeCasts (Mat W 256)
  biases : (Cube 1 256 W).ShapeCasts (Mat 256 W)
  head0 : (Mat W 256).Slices ![0, 0] (Mat W 64)
  head1 : (Mat W 256).Slices ![0, 64] (Mat W 64)
  head2 : (Mat W 256).Slices ![0, 128] (Mat W 64)
  head3 : (Mat W 256).Slices ![0, 192] (Mat W 64)
  reduces : (Mat 256 W).Reduces [1] (Row 256)
  columns : (Mat 256 1).Broadcasts (Mat 256 W)

section
variable {W : ℕ} (fits : Fits W)

/-- One head: its slices start at column `o`, its bias is `z`. -/
def head {o : ℕ} (hq : (Mat 256 256).Slices ![0, o] (Mat 256 64)) (hk : (Mat W 256).Slices ![0, o] (Mat W 64))
    (q : FVec Ideal (Mat 256 256) .bf16) (k v : FVec Ideal (Mat W 256) .bf16) (z : FVec Ideal (Cube 1 256 W) .f32) :
    FVec Ideal (Mat 256 64) .f32 :=
  soft W fits.reduces (by decide) fits.columns (by decide)
    (addf (scores W 64 hq hk q k) (shapeCast (Mat 256 W) z fits.biases))
    (extractStridedSlice (Mat W 64) ![0, o] v hk)

/-- A tile: its four heads side by side. -/
def tile (q : FVec Ideal (Cube 1 256 256) .bf16) (k v : FVec Ideal (Cube 1 W 256) .bf16) (z0 z1 z2 z3 : FVec Ideal (Cube 1 256 W) .f32) :
    FVec Ideal (Cube 1 256 256) .bf16 :=
  have q' : FVec Ideal (Mat 256 256) .bf16 :=
    mulf (shapeCast (Mat 256 256) q (by decide)) (broadcast (Mat 256 256) (Scalar.ofBits .bf16 0x3E00#16))
  have k' : FVec Ideal (Mat W 256) .bf16 := shapeCast (Mat W 256) k fits.keys
  have v' : FVec Ideal (Mat W 256) .bf16 := shapeCast (Mat W 256) v fits.keys
  shapeCast (Cube 1 256 256) (truncf .bf16 (four
    (head fits (o := 0) (by decide) fits.head0 q' k' v' z0) (head fits (o := 64) (by decide) fits.head1 q' k' v' z1)
    (head fits (o := 128) (by decide) fits.head2 q' k' v' z2) (head fits (o := 192) (by decide) fits.head3 q' k' v' z3))
    (by decide)) (by decide)

variable (hW : 0 < W) {qr kr : ℕ → ℕ → ℝ} {zr : ℕ → ℕ → ℕ → ℝ} {vr : ℕ → ℕ → EReal}

include hW in
/-- One head at an index, over real operands. -/
theorem head_at {o h : ℕ} (ho : o + 64 ≤ 256) (hq : (Mat 256 256).Slices ![0, o] (Mat 256 64))
    (hk : (Mat W 256).Slices ![0, o] (Mat W 64))
    (q : FVec Ideal (Mat 256 256) .bf16) (k v : FVec Ideal (Mat W 256) .bf16) (z : FVec Ideal (Cube 1 256 W) .f32)
    (eq : ∀ (r c : Fin 256), q (ix2 r c) = (qr r c : EReal)) (ek : ∀ (s : Fin W) (c : Fin 256), k (ix2 s c) = (kr s c : EReal))
    (ev : ∀ (s : Fin W) (c : Fin 256), v (ix2 s c) = vr s c)
    (ez : ∀ (r : Fin 256) (s : Fin W), z (ix3 0 r s) = (zr h r s : EReal))
    (r : Fin 256) (d : Fin 64) :
    head fits hq hk q k v z (ix2 r d)
      = mean W (fun s => (∑ d : Fin 64, qr r (o + d.val) * kr s (o + d.val)) + zr h r s) (fun s => vr s (o + d.val)) := by
  unfold head
  rw [soft_at]
  refine att_eq hW le_rfl (fun s => ?_) fun s => ?_
  · rw [if_pos s.isLt]
    refine Eq.trans (addf_apply _ _ _) ?_
    rw [scores_at W 64 hq hk ho, drop_at, ez]
    simp only [eq, ek, ← EReal.coe_mul]
    rw [← coe_sum, EReal.coe_add]
    rfl
  · pointwise []
    exact Eq.trans (congrArg v (mat_ext (j := ix2 s ⟨o + d.val, by omega⟩) (Nat.zero_add _) rfl)) (ev s ⟨o + d.val, by omega⟩)

include hW in
/-- A tile at an index, over real operands: each query's mean over all the tile's keys. -/
theorem tile_at (q : FVec Ideal (Cube 1 256 256) .bf16) (k v : FVec Ideal (Cube 1 W 256) .bf16) (z0 z1 z2 z3 : FVec Ideal (Cube 1 256 W) .f32)
    (eq : ∀ (r c : Fin 256), q (ix3 0 r c) = (qr r c : EReal)) (ek : ∀ (s : Fin W) (c : Fin 256), k (ix3 0 s c) = (kr s c : EReal))
    (ev : ∀ (s : Fin W) (c : Fin 256), v (ix3 0 s c) = vr s c)
    (ez0 : ∀ (r : Fin 256) (s : Fin W), z0 (ix3 0 r s) = (zr 0 r s : EReal))
    (ez1 : ∀ (r : Fin 256) (s : Fin W), z1 (ix3 0 r s) = (zr 1 r s : EReal))
    (ez2 : ∀ (r : Fin 256) (s : Fin W), z2 (ix3 0 r s) = (zr 2 r s : EReal))
    (ez3 : ∀ (r : Fin 256) (s : Fin W), z3 (ix3 0 r s) = (zr 3 r s : EReal))
    (r j : Fin 256) :
    tile fits q k v z0 z1 z2 z3 (ix3 0 r j)
      = mean W
          (fun s => (∑ d : Fin 64, qr r (j.val / 64 * 64 + d.val) * (1 / 8) * kr s (j.val / 64 * 64 + d.val)) + zr (j.val / 64) r s)
          (fun s => vr s j.val) := by
  have eq' : ∀ r c : Fin 256, mulf (shapeCast (Mat 256 256) q (by decide)) (broadcast (Mat 256 256) (Scalar.ofBits .bf16 0x3E00#16))
      (ix2 r c) = ((qr r c * (1 / 8) : ℝ) : EReal) := fun r c => by
    pointwise []
    rw [eq, Cert.FoxTile.eighth, ← EReal.coe_mul]
  have H : ∀ {o h : ℕ} (_ : o + 64 ≤ 256) hq hk z ez d, _ := fun {o h} ho hq hk z ez d =>
    head_at fits hW (o := o) (h := h) (zr := zr) (qr := fun r c => qr r c * (1 / 8)) ho hq hk _ _ _ z eq'
      (fun s c => (drop_at k fits.keys s c).trans (ek s c)) (fun s c => (drop_at v fits.keys s c).trans (ev s c)) ez r d
  unfold tile
  refine Eq.trans (shapeCast_addUnit_apply ![256, 256] _ (by decide) (ix3 0 r j)) ?_
  rw [show (fun a : Fin 2 => ix3 (0 : Fin 1) r j a.succ) = ix2 r j from
    funext fun c => by match c with | ⟨0, _⟩ => rfl | ⟨1, _⟩ => rfl]
  show four _ _ _ _ (ix2 r j) = _
  refine Eq.trans (four_at _ _ _ _ (fun h d => mean W
          (fun s => (∑ d : Fin 64, qr r (h * 64 + d.val) * (1 / 8) * kr s (h * 64 + d.val)) + zr h r s)
          (fun s => vr s (h * 64 + d.val))) r
    (fun d => H (o := 0) (h := 0) (by decide) _ _ z0 ez0 d) (fun d => H (o := 64) (h := 1) (by decide) _ _ z1 ez1 d)
    (fun d => H (o := 128) (h := 2) (by decide) _ _ z2 ez2 d) (fun d => H (o := 192) (h := 3) (by decide) _ _ z3 ez3 d) j) ?_
  have e : j.val / 64 * 64 + j.val % 64 = j.val := by omega
  show (mean _ _ fun s => vr s (j.val / 64 * 64 + j.val % 64)) = _
  rw [e]
end

end Cert.BandTile

end
-- ==== Proof.BandBlock.lean ====
/-
  What each grid point of the banded attention writes back: its tile of 256 queries against the at most 768 keys of its
  own block and of the two before.
-/
module

public import proofs.«01_k».proof.Proof.Gen.BandIdeal.Value
public import proofs.«01_k».proof.Proof.BandTile
public import Idealize.ShloMosaic.Lib.Pipeline.ValueKit.Tiles

@[expose] public section

set_option maxRecDepth 16384

noncomputable section

open Idealize.ShloMosaic Idealize.ShloMosaic.TcCoe Idealize.SL.Sem
open Cert.BandIdeal Cert.BandIdeal.Gen Cert.Attn Cert.BandTile

namespace Cert.BandIdeal.Value

theorem hz3 : (![0, 0, 0] : Fin 3 → Nat) = fun _ => 0 := funext fun a => by fin_cases a <;> rfl

/-- The conditions under which `W` of 2048 keys from key `P` on are read, and the biases from column `O` on. -/
structure Reads (W P O : ℕ) : Prop extends Fits W where
  rows : ∀ a, (![0, P, 0] : Fin 3 → Nat) a + (Cube 1 W 256).size a ≤ (Cube 1 2048 256).size a
  bias0 : ∀ a, (![0, 0, O] : Fin 3 → Nat) a + (Cube 1 256 W).size a ≤ (Cube 4 256 768).size a
  bias1 : ∀ a, (![1, 0, O] : Fin 3 → Nat) a + (Cube 1 256 W).size a ≤ (Cube 4 256 768).size a
  bias2 : ∀ a, (![2, 0, O] : Fin 3 → Nat) a + (Cube 1 256 W).size a ≤ (Cube 4 256 768).size a
  bias3 : ∀ a, (![3, 0, O] : Fin 3 → Nat) a + (Cube 1 256 W).size a ≤ (Cube 4 256 768).size a

/-- The tile against the `W` keys from key `P` on of the blocks a grid point reads. -/
def block {W P O : ℕ} (hR : Reads W P O) (x0 : Vec Ideal S1x256x256 .bf16) (x1 x2 : Vec Ideal S1x2048x256 .bf16)
    (x3 : Vec Ideal S4x256x768 .f32) : Vec Ideal S1x256x256 .bf16 :=
  tile hR.toFits x0 (View.ld x1 (Rect.unit (s := S1x2048x256) ![0, P, 0] (Cube 1 W 256).size hR.rows))
    (View.ld x2 (Rect.unit (s := S1x2048x256) ![0, P, 0] (Cube 1 W 256).size hR.rows))
    (View.ld x3 (Rect.unit (s := S4x256x768) ![0, 0, O] (Cube 1 256 W).size hR.bias0))
    (View.ld x3 (Rect.unit (s := S4x256x768) ![1, 0, O] (Cube 1 256 W).size hR.bias1))
    (View.ld x3 (Rect.unit (s := S4x256x768) ![2, 0, O] (Cube 1 256 W).size hR.bias2))
    (View.ld x3 (Rect.unit (s := S4x256x768) ![3, 0, O] (Cube 1 256 W).size hR.bias3))

variable (m : (ℓ : Loc nD τ sig) → Buf (Elt Ideal) ℓ)

/-- The arguments, by name. -/
abbrev aX (c : Dev nD) : Vec Ideal S16x2048x768 .bf16 := m ((c.tc : Thread nD τ).loc main_arg0)
abbrev aZ (c : Dev nD) : Vec Ideal S4x256x768 .f32 := m ((c.tc : Thread nD τ).loc main_arg1)

/-- The windows' block indices at point `t`, decided over the grid. -/
theorem wfacts : ∀ t : Fin cfg0.N, win0_0.index t = ![t.val / 8, t.val % 8, 0] ∧ win0_1.index t = ![t.val / 8, 0, 1]
    ∧ win0_2.index t = ![t.val / 8, 0, 2] ∧ win0_3.index t = ![0, 0, 0] ∧ win0_4.index t = ![t.val / 8, t.val % 8, 0] :=
  (by decide +kernel : ∀ t : Fin grid0.N, _)

section
variable {m} {c : Dev nD} {X Z : ℕ → ℕ → ℕ → ℝ} {V : ℕ → ℕ → ℕ → EReal}
  (hX : ∀ (b : Fin 16) (r : Fin 2048) (j : Fin 768), j.val < 512 → aX m c (ix3 b r j) = (X b r j : EReal))
  (hV : ∀ (b : Fin 16) (r : Fin 2048) (j : Fin 768), aX m c (ix3 b r j) = V b r j)
  (hZ : ∀ (g : Fin 4) (r : Fin 256) (s : Fin 768), aZ m c (ix3 g r s) = (Z g r s : EReal)) (t : Fin cfg0.N)
include hX

theorem blk_0 (r j : Fin 256) : iblk m c 0 t (ix3 0 r j) = (X (t.val / 8) (256 * (t.val % 8) + r.val) j : EReal) := by
  have hN := lt_of_lt_of_eq t.isLt (show cfg0.N = 128 from N_0)
  have e := (wfacts t).1
  have i0 : win0_0.index t (0 : Fin 3) = t.val / 8 := congrFun e 0
  have i1 : win0_0.index t (1 : Fin 3) = t.val % 8 := congrFun e 1
  have i2 : win0_0.index t (2 : Fin 3) = 0 := congrFun e 2
  unfold iblk
  rw [View.read_apply]
  refine Eq.trans (congrArg (aX m c) (funext fun a => Fin.ext ?_))
    (hX ⟨t.val / 8, by omega⟩ ⟨256 * (t.val % 8) + r.val, by omega⟩ ⟨j.val, by omega⟩ (show j.val < 512 by omega))
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 256 + 1 * j.val = j.val; omega

theorem blk_1 (s : Fin 2048) (j : Fin 256) : iblk m c 1 t (ix3 0 s j) = (X (t.val / 8) s (256 + j.val) : EReal) := by
  have hN := lt_of_lt_of_eq t.isLt (show cfg0.N = 128 from N_0)
  have e := (wfacts t).2.1
  have i0 : win0_1.index t (0 : Fin 3) = t.val / 8 := congrFun e 0
  have i1 : win0_1.index t (1 : Fin 3) = 0 := congrFun e 1
  have i2 : win0_1.index t (2 : Fin 3) = 1 := congrFun e 2
  unfold iblk
  rw [View.read_apply]
  refine Eq.trans (congrArg (aX m c) (funext fun a => Fin.ext ?_)) (hX ⟨t.val / 8, by omega⟩ s ⟨256 + j.val, by omega⟩ (show 256 + j.val < 512 by omega))
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 256 + 1 * j.val = 256 + j.val; omega

omit hX
include hV in
theorem blk_2 (s : Fin 2048) (j : Fin 256) : iblk m c 2 t (ix3 0 s j) = V (t.val / 8) s (512 + j.val) := by
  have hN := lt_of_lt_of_eq t.isLt (show cfg0.N = 128 from N_0)
  have e := (wfacts t).2.2.1
  have i0 : win0_2.index t (0 : Fin 3) = t.val / 8 := congrFun e 0
  have i1 : win0_2.index t (1 : Fin 3) = 0 := congrFun e 1
  have i2 : win0_2.index t (2 : Fin 3) = 2 := congrFun e 2
  unfold iblk
  rw [View.read_apply]
  refine Eq.trans (congrArg (aX m c) (funext fun a => Fin.ext ?_)) (hV ⟨t.val / 8, by omega⟩ s ⟨512 + j.val, by omega⟩)
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ => show win0_2.index t (2 : Fin 3) * 256 + 1 * j.val = 512 + j.val; omega

include hZ in
theorem blk_3 (g : Fin 4) (r : Fin 256) (s : Fin 768) : iblk m c 3 t (ix3 g r s) = (Z g r s : EReal) := by
  have e := (wfacts t).2.2.2.1
  have i0 : win0_3.index t (0 : Fin 3) = 0 := congrFun e 0
  have i1 : win0_3.index t (1 : Fin 3) = 0 := congrFun e 1
  have i2 : win0_3.index t (2 : Fin 3) = 0 := congrFun e 2
  unfold iblk
  rw [View.read_apply]
  refine Eq.trans (congrArg (aZ m c) (funext fun a => Fin.ext ?_)) (hZ g r s)
  match a with
  | ⟨0, _⟩ => show win0_3.index t (0 : Fin 3) * 4 + 1 * g.val = g.val; omega
  | ⟨1, _⟩ => show win0_3.index t (1 : Fin 3) * 256 + 1 * r.val = r.val; omega
  | ⟨2, _⟩ => show win0_3.index t (2 : Fin 3) * 768 + 1 * s.val = s.val; omega

include hZ in
/-- The biases of one head from column `O` on, at an index. -/
theorem bias_at {W O : ℕ} (hO : W + O = 768) (g : Fin 4)
    (h : ∀ a, (![g.val, 0, O] : Fin 3 → Nat) a + (Cube 1 256 W).size a ≤ (Cube 4 256 768).size a) (r : Fin 256) (s : Fin W) :
    View.ld (iblk m c 3 t) (Rect.unit (s := S4x256x768) ![g.val, 0, O] (Cube 1 256 W).size h) (ix3 0 r s) = (Z g r (O + s.val) : EReal) :=
  (View.ld_unit_apply_of _ _ _ _ _ (ix3 g r ⟨O + s.val, by omega⟩) fun a => by
    match a with | ⟨0, _⟩ => rfl | ⟨1, _⟩ => exact (Nat.zero_add _).symm | ⟨2, _⟩ => rfl).trans (blk_3 hZ t g r ⟨O + s.val, by omega⟩)

/-- What query row `R` of batch `b` is at column `j`: the mean of the values of its window, the `W` keys from key `P` on, by
    its scores and the biases from column `O` on. -/
def bandRow (X Z : ℕ → ℕ → ℕ → ℝ) (V : ℕ → ℕ → ℕ → EReal) (W P O b R j : ℕ) : EReal :=
  mean W (fun s => (∑ d : Fin 64, X b R (j / 64 * 64 + d.val) * (1 / 8) * X b (P + s) (256 + (j / 64 * 64 + d.val))) + Z (j / 64) (R % 256) (O + s))
    fun s => V b (P + s) (512 + j)

/-- The first key of the window of query block `i`. -/
def first (i : ℕ) : ℕ := 256 * (i - 2)

/-- How many keys the window of query block `i` has. -/
def width (i : ℕ) : ℕ := 256 * i + 256 - first i

include hX hV hZ in
/-- A point whose write-back is the tile against its window writes back its rows. -/
theorem of_block {W P O : ℕ} (hP : P = first (t.val % 8)) (hW : W = width (t.val % 8)) (hO : W + O = 768) (hR : Reads W P O)
    (e : (dats m 0 c).flushed 4 t = block hR (iblk m c 0 t) (iblk m c 1 t) (iblk m c 2 t) (iblk m c 3 t)) (r j : Fin 256) :
    ((dats m 0 c).flushed 4 t : Vec Ideal S1x256x256 .bf16) (ix3 0 r j)
      = bandRow X Z V (width (t.val % 8)) (first (t.val % 8)) (768 - width (t.val % 8)) (t.val / 8) (256 * (t.val % 8) + r.val) j.val := by
  have hl : P + W ≤ 2048 := by have := t.isLt; unfold width at hW; unfold first at hW hP; omega
  have hp : 0 < W := by unfold width at hW; unfold first at hW; omega
  rw [e]
  unfold block
  refine (tile_at hR.toFits hp (qr := fun r j => X (t.val / 8) (256 * (t.val % 8) + r) j)
    (kr := fun s j => X (t.val / 8) (P + s) (256 + j)) (vr := fun s j => V (t.val / 8) (P + s) (512 + j)) (zr := fun g r s => Z g r (O + s))
    _ _ _ _ _ _ _ (blk_0 hX t) (fun s j => ?_) (fun s j => ?_) (bias_at hZ t hO 0 hR.bias0) (bias_at hZ t hO 1 hR.bias1)
    (bias_at hZ t hO 2 hR.bias2) (bias_at hZ t hO 3 hR.bias3) r j).trans ?_
  · exact (View.ld_unit_apply_of _ _ _ _ _ (ix3 0 ⟨P + s.val, by omega⟩ j) fun a => by
      match a with | ⟨0, _⟩ => rfl | ⟨1, _⟩ => rfl | ⟨2, _⟩ => exact (Nat.zero_add _).symm).trans (blk_1 hX t ⟨P + s.val, by omega⟩ j)
  · exact (View.ld_unit_apply_of _ _ _ _ _ (ix3 0 ⟨P + s.val, by omega⟩ j) fun a => by
      match a with | ⟨0, _⟩ => rfl | ⟨1, _⟩ => rfl | ⟨2, _⟩ => exact (Nat.zero_add _).symm).trans (blk_2 hV t ⟨P + s.val, by omega⟩ j)
  · have o : 768 - width (t.val % 8) = O := by omega
    have k : (256 * (t.val % 8) + r.val) % 256 = r.val := by have := r.isLt; omega
    rw [o, ← hP, ← hW]
    unfold bandRow
    rw [k]

include hX hV hZ in
/-- What any point writes back. -/
theorem flushed_at (r j : Fin 256) :
    ((dats m 0 c).flushed 4 t : Vec Ideal S1x256x256 .bf16) (ix3 0 r j)
      = bandRow X Z V (width (t.val % 8)) (first (t.val % 8)) (768 - width (t.val % 8)) (t.val / 8) (256 * (t.val % 8) + r.val) j.val := by
  obtain h | h | h | h | h | h | h | h : t.val % 8 = 0 ∨ t.val % 8 = 1 ∨ t.val % 8 = 2 ∨ t.val % 8 = 3 ∨ t.val % 8 = 4
    ∨ t.val % 8 = 5 ∨ t.val % 8 = 6 ∨ t.val % 8 = 7 := by omega
  case' inl =>
    refine of_block hX hV hZ t (W := 256) (P := 0) (O := 512) (by rw [h]; rfl) (by rw [h]; rfl) rfl ⟨by constructor <;> decide, by decide, by decide, by decide, by decide, by decide⟩ ?_ r j
    rw [flushed4_A m c t h (by omega) (by omega) (by omega) (by omega) (by omega) (by omega) (by omega), out0_A_4,
      View.read_writes_eq_canon _ _ _ (cover0_A_4 c _ _ _ _ _ _ _ _ _ _ _ _ _ _ _ _ _ _ _ _ _ _ _), kernelRun0_A]
  case' inr.inl =>
    refine of_block hX hV hZ t (W := 512) (P := 0) (O := 256) (by rw [h]; rfl) (by rw [h]; rfl) rfl ⟨by constructor <;> decide, by decide, by decide, by decide, by decide, by decide⟩ ?_ r j
    rw [flushed4_B m c t (by omega) h (by omega) (by omega) (by omega) (by omega) (by omega) (by omega), out0_B_4,
      View.read_writes_eq_canon _ _ _ (cover0_B_4 c _ _ _ _ _ _ _ _ _ _ _ _ _ _ _ _ _ _ _ _ _ _ _), kernelRun0_B]
  case' inr.inr.inl =>
    refine of_block hX hV hZ t (W := 768) (P := 0) (O := 0) (by rw [h]; rfl) (by rw [h]; rfl) rfl ⟨by constructor <;> decide, by decide, by decide, by decide, by decide, by decide⟩ ?_ r j
    rw [flushed4_C m c t (by omega) (by omega) h (by omega) (by omega) (by omega) (by omega) (by omega), out0_C_4,
      View.read_writes_eq_canon _ _ _ (cover0_C_4 c _ _ _ _ _ _ _ _ _ _ _ _ _ _ _ _ _ _ _ _ _ _ _), kernelRun0_C]
  case' inr.inr.inr.inl =>
    refine of_block hX hV hZ t (W := 768) (P := 256) (O := 0) (by rw [h]; rfl) (by rw [h]; rfl) rfl ⟨by constructor <;> decide, by decide, by decide, by decide, by decide, by decide⟩ ?_ r j
    rw [flushed4_D m c t (by omega) (by omega) (by omega) h (by omega) (by omega) (by omega) (by omega), out0_D_4,
      View.read_writes_eq_canon _ _ _ (cover0_D_4 c _ _ _ _ _ _ _ _ _ _ _ _ _ _ _ _ _ _ _ _ _ _ _), kernelRun0_D]
  case' inr.inr.inr.inr.inl =>
    refine of_block hX hV hZ t (W := 768) (P := 512) (O := 0) (by rw [h]; rfl) (by rw [h]; rfl) rfl ⟨by constructor <;> decide, by decide, by decide, by decide, by decide, by decide⟩ ?_ r j
    rw [flushed4_E m c t (by omega) (by omega) (by omega) (by omega) h (by omega) (by omega) (by omega), out0_E_4,
      View.read_writes_eq_canon _ _ _ (cover0_E_4 c _ _ _ _ _ _ _ _ _ _ _ _ _ _ _ _ _ _ _ _ _ _ _), kernelRun0_E]
  case' inr.inr.inr.inr.inr.inl =>
    refine of_block hX hV hZ t (W := 768) (P := 768) (O := 0) (by rw [h]; rfl) (by rw [h]; rfl) rfl ⟨by constructor <;> decide, by decide, by decide, by decide, by decide, by decide⟩ ?_ r j
    rw [flushed4_F m c t (by omega) (by omega) (by omega) (by omega) (by omega) h (by omega) (by omega), out0_F_4,
      View.read_writes_eq_canon _ _ _ (cover0_F_4 c _ _ _ _ _ _ _ _ _ _ _ _ _ _ _ _ _ _ _ _ _ _ _), kernelRun0_F]
  case' inr.inr.inr.inr.inr.inr.inl =>
    refine of_block hX hV hZ t (W := 768) (P := 1024) (O := 0) (by rw [h]; rfl) (by rw [h]; rfl) rfl ⟨by constructor <;> decide, by decide, by decide, by decide, by decide, by decide⟩ ?_ r j
    rw [flushed4_G m c t (by omega) (by omega) (by omega) (by omega) (by omega) (by omega) h (by omega), out0_G_4,
      View.read_writes_eq_canon _ _ _ (cover0_G_4 c _ _ _ _ _ _ _ _ _ _ _ _ _ _ _ _ _ _ _ _ _ _ _), kernelRun0_G]
  case' inr.inr.inr.inr.inr.inr.inr =>
    refine of_block hX hV hZ t (W := 768) (P := 1280) (O := 0) (by rw [h]; rfl) (by rw [h]; rfl) rfl ⟨by constructor <;> decide, by decide, by decide, by decide, by decide, by decide⟩ ?_ r j
    rw [flushed4_H m c t (by omega) (by omega) (by omega) (by omega) (by omega) (by omega) (by omega) h, out0_H_4,
      View.read_writes_eq_canon _ _ _ (cover0_H_4 c _ _ _ _ _ _ _ _ _ _ _ _ _ _ _ _ _ _ _ _ _ _ _), kernelRun0_H]
  all_goals
    dsimp only
    sl_unfold_words
    rw [View.canon_unit_zero (S := S1x256x256) hz3]
    simp only [View.readAt_eq_ld, (hs0_0 t).read_unread, (hs0_1 t).read_unread, (hs0_2 t).read_unread, (hs0_3 t).read_unread,
      View.ld_unit_zero (S := S1x256x256) hz3]
    rfl
end

end Cert.BandIdeal.Value

end
-- ==== Proof.BandRef.lean ====
/-
  The banded-attention reference at the ideal instance, read at an index.
-/
module

public import proofs.«01_k».proof.Proof.Gen.BandRefIdeal.Read
public import proofs.«01_k».proof.Proof.AttnMath

@[expose] public section

set_option maxRecDepth 16384

noncomputable section

open Idealize.ShloMosaic Idealize.ShloMosaic.TcCoe Idealize.SL.Sem
open Cert.BandRefIdeal Cert.BandRefIdeal.Gen Cert.BandRefIdeal.Read Cert.Attn

namespace Cert.BandRefIdeal.Value

variable (x0 : Vec Ideal S16x2048x768 .bf16) (x1 : Vec Ideal S4x256x768 .f32)

/-- The scores before their bias, at an index. -/
theorem v9_at (b : Fin 16) (h : Fin 4) (r k : Fin 2048) :
    val_main_v9 (F := Ideal) x0 (ix4 b h r k)
      = (∑ d : Fin 64, x0 (ix3 b r ⟨h.val * 64 + d.val, by omega⟩) * x0 (ix3 b k ⟨256 + (h.val * 64 + d.val), by omega⟩))
          * Ideal.ofBits .f32 0x3E000000#32 := by
  pointwise [val_main_v9, val_main_v8, val_main_cst, val_main_v7, val_main_v4, val_main_v5, val_main_v1, val_main_v2, val_main_v0]

/-- Whether a query's block lies `c` blocks after a key's, at an index, of any such comparison. -/
theorem lag_at : ∀ (c : Fin 3) (p q : Fin 8),
    IntOp.cmpi .eq (IntOp.subi (BitVec.ofNat 32 p.val) (BitVec.ofNat 32 q.val)) (BitVec.ofNat 32 c.val) = 1#1 ↔ p.val = q.val + c.val := by
  decide +kernel

/-- The comparison with no blocks between, at an index. -/
theorem v24_at (p q : Fin 8) : val_main_v24 (F := Ideal) (ix5 0 p 0 q 0) = 1#1 ↔ p.val = q.val := by
  pointwise [val_main_v24, val_main_v23, val_main_c, val_main_v22, val_main_v21, val_main_v20, val_main_v19, val_main_v18, val_main_v17, val_main_v16]
  exact lag_at 0 p q

/-- The comparison with one block between, at an index. -/
theorem v26_at (p q : Fin 8) : val_main_v26 (F := Ideal) (ix5 0 p 0 q 0) = 1#1 ↔ p.val = q.val + 1 := by
  pointwise [val_main_v26, val_main_v25, val_main_c_0, val_main_v22, val_main_v21, val_main_v20, val_main_v19, val_main_v18, val_main_v17, val_main_v16]
  exact lag_at 1 p q

/-- The comparison with two blocks between, at an index. -/
theorem v28_at (p q : Fin 8) : val_main_v28 (F := Ideal) (ix5 0 p 0 q 0) = 1#1 ↔ p.val = q.val + 2 := by
  pointwise [val_main_v28, val_main_v27, val_main_c_1, val_main_v22, val_main_v21, val_main_v20, val_main_v19, val_main_v18, val_main_v17, val_main_v16]
  exact lag_at 2 p q

/-- The bias of a query against a key, by their blocks and their places in them. -/
theorem v31_at (h : Fin 4) (p q : Fin 8) (r k : Fin 256) :
    val_main_v31 (F := Ideal) x1 (ix5 h p r q k)
      = if p.val = q.val then x1 (ix3 h r ⟨512 + k.val, by omega⟩) else
          if p.val = q.val + 1 then x1 (ix3 h r ⟨256 + k.val, by omega⟩) else
          if p.val = q.val + 2 then x1 (ix3 h r ⟨k.val, by omega⟩) else ⊥ := by
  rw [val_main_v31_apply, val_main_v30_apply, val_main_v29_apply]
  pointwise [val_main_call2_v0, val_main_call2_v1, val_main_call1_v0, val_main_call1_v1, val_main_call0_v1, val_main_call0_v2, val_main_call0_v3,
    val_main_v15, val_main_v14, val_main_v13, val_main_v12, val_main_v11, val_main_v10]
  rw [show (val_main_call0_v0 (F := Ideal) ix0 : EReal) = ⊥ from least]
  unfold Scalar.select
  exact if_congr (v24_at p q) rfl (if_congr (v26_at p q) rfl (if_congr (v28_at p q) rfl rfl))

/-- The bias spread over all queries and keys, at an index. -/
theorem v34_at (b : Fin 16) (h : Fin 4) (r k : Fin 2048) :
    val_main_v34 (F := Ideal) x1 (ix4 b h r k)
      = val_main_v31 (F := Ideal) x1 (ix5 h ⟨r.val / 256, by omega⟩ ⟨r.val % 256, by omega⟩ ⟨k.val / 256, by omega⟩ ⟨k.val % 256, by omega⟩) := by
  pointwise [val_main_v34, val_main_v33, val_main_v32]

/-- The largest along the last axis, of any scores. -/
theorem max_at (y : FVec Ideal S16x4x2048x2048 .f32) (b : Fin 16) (h : Fin 4) (r : Fin 2048) :
    Host.reduce FloatOps.maximumf y (constant (F := Ideal) S_ .f32 0xFF800000#32) reducesTo_S16x4x2048x2048_S16x4x2048_d3 h_S_ (ix3 b h r)
      = top fun k => y (ix4 b h r k) := by
  pointwise [top]
  rw [least]

/-- The largest score. -/
theorem v38_at (b : Fin 16) (h : Fin 4) (r : Fin 2048) :
    val_main_v38 (F := Ideal) x0 x1 (ix3 b h r) = top fun k => val_main_v35 (F := Ideal) x0 x1 (ix4 b h r k) := by
  have e : val_main_v36 (F := Ideal) x0 x1 (ix3 b h r) = top fun k => val_main_v35 (F := Ideal) x0 x1 (ix4 b h r k) :=
    max_at (val_main_v35 (F := Ideal) x0 x1) b h r
  rw [val_main_v38_apply, e]
  pointwise [val_main_v37, val_main_cst_4]
  rw [least, max_eq_right bot_le]

/-- The exponentials. -/
theorem v42_at (b : Fin 16) (h : Fin 4) (r k : Fin 2048) :
    val_main_v42 (F := Ideal) x0 x1 (ix4 b h r k)
      = Ideal.exp (val_main_v35 (F := Ideal) x0 x1 (ix4 b h r k) - top fun k => val_main_v35 (F := Ideal) x0 x1 (ix4 b h r k)) := by
  pointwise [val_main_v42, val_main_v41, val_main_v40, val_main_v39, v38_at]

/-- The normalized weights. -/
theorem v46_at (b : Fin 16) (h : Fin 4) (r k : Fin 2048) :
    val_main_v46 (F := Ideal) x0 x1 (ix4 b h r k)
      = Ideal.div (val_main_v42 (F := Ideal) x0 x1 (ix4 b h r k)) (∑ k, val_main_v42 (F := Ideal) x0 x1 (ix4 b h r k)) := by
  pointwise [val_main_v46, val_main_v45, val_main_v44, val_main_v43, val_main_cst_5]

/-- The result at an index. -/
theorem v50_at (b : Fin 16) (r : Fin 2048) (j : Fin 256) :
    val_main_v50 (F := Ideal) x0 x1 (ix3 b r j)
      = attRef (fun k => val_main_v35 (F := Ideal) x0 x1 (ix4 b ⟨j.val / 64, by omega⟩ r k))
          fun k => x0 (ix3 b k ⟨512 + j.val, by omega⟩) := by
  pointwise [val_main_v50, val_main_v49, val_main_v48, val_main_v47, val_main_v6, val_main_v3, val_main_v0, v46_at, v42_at, attRef]

end Cert.BandRefIdeal.Value

end
-- ==== Proof.BandMath.lean ====
/-
  Softmax attention over a window: a row whose scores are real on `n` keys from key `lo` on and masked elsewhere is the mean
  over the window.
-/
module

public import proofs.«01_k».proof.Proof.AttnMath

@[expose] public section

noncomputable section

open Idealize.ShloMosaic

namespace Cert.Attn

variable {W n lo : ℕ} {s v : Fin W → EReal} {l : ℕ → ℝ} {x : ℕ → EReal}

/-- The largest score of a row real on a window is real. -/
theorem top_window (hn : 0 < n) (hW : lo + n ≤ W)
    (hs : ∀ k : Fin W, s k = if lo ≤ k.val ∧ k.val < lo + n then (l k.val : EReal) else ⊥) : ∃ μ : ℝ, top s = μ := by
  have below : ((l lo : ℝ) : EReal) ≤ top s := by
    unfold top
    rw [Finset.le_fold_max]
    exact Or.inr ⟨⟨lo, by omega⟩, Finset.mem_univ _, by rw [hs, if_pos ⟨le_rfl, show lo < lo + n by omega⟩]⟩
  have above : top s < ⊤ := by
    unfold top
    rw [Finset.fold_max_lt]
    refine ⟨bot_lt_top, fun k _ => ?_⟩
    rw [hs]
    split
    · exact EReal.coe_lt_top _
    · exact bot_lt_top
  exact ⟨(top s).toReal, (EReal.coe_toReal above.ne (ne_of_gt (lt_of_lt_of_le (EReal.bot_lt_coe _) below))).symm⟩

/-- A shifted score's exponential: real, and zero outside the window. -/
theorem exp_window (hs : ∀ k : Fin W, s k = if lo ≤ k.val ∧ k.val < lo + n then (l k.val : EReal) else ⊥) (μ : ℝ) (k : Fin W) :
    Ideal.exp (s k - μ) = ((if lo ≤ k.val ∧ k.val < lo + n then Real.exp (l k.val - μ) else 0 : ℝ) : EReal) := by
  rw [hs]
  split
  · rw [← EReal.coe_sub, Ideal.exp_coe]
  · rw [EReal.bot_sub, Ideal.exp_bot, EReal.coe_zero]

/-- A sum that is zero outside a window is the sum over the window. -/
theorem sum_window {M : Type*} [AddCommMonoid M] (hW : lo + n ≤ W) (f : ℕ → M) :
    (∑ k : Fin W, if lo ≤ k.val ∧ k.val < lo + n then f k.val else 0) = ∑ k ∈ Finset.range n, f (lo + k) := by
  rw [Fin.sum_univ_eq_sum_range (fun k => if lo ≤ k ∧ k < lo + n then f k else 0) W, ← Finset.sum_filter]
  have e : (Finset.range W).filter (fun k => lo ≤ k ∧ k < lo + n) = Finset.Ico lo (lo + n) := Finset.ext fun k => by
    simp only [Finset.mem_filter, Finset.mem_range, Finset.mem_Ico]
    omega
  rw [e, Finset.sum_Ico_eq_sum_range, Nat.add_sub_cancel_left]

/-- The sum of normalized weights times values is the mean over the window. -/
theorem attRef_window (hn : 0 < n) (hW : lo + n ≤ W)
    (hs : ∀ k : Fin W, s k = if lo ≤ k.val ∧ k.val < lo + n then (l k.val : EReal) else ⊥)
    (hv : ∀ k : Fin W, v k = x k.val) : attRef s v = mean n (fun k => l (lo + k)) fun k => x (lo + k) := by
  obtain ⟨μ, hμ⟩ := top_window hn hW hs
  have pos := total_pos (l := fun k => l (lo + k) - μ) hn
  unfold attRef
  rw [hμ]
  simp only [exp_window hs, hv]
  rw [← coe_sum, sum_window hW (fun k => Real.exp (l k - μ))]
  simp only [div_real _ pos.ne']
  rw [← mean_shift n (fun k => l (lo + k)) _ μ]
  unfold mean
  rw [← sum_window hW (fun k => x k * ((Real.exp (l k - μ) / ∑ i ∈ Finset.range n, Real.exp (l (lo + i) - μ) : ℝ) : EReal))]
  refine Finset.sum_congr rfl fun k _ => ?_
  split
  · rfl
  · rw [zero_div, EReal.coe_zero, mul_zero]

end Cert.Attn

end
-- ==== Proof.Finite.lean ====
/-
  Finite numbers are real, and the entries of an array named by natural numbers.
-/
module

public import Idealize.ShloMosaic.Lib.Pointwise
public import Idealize.ShloMosaic.PureOps.Ideal

@[expose] public section

noncomputable section

open Idealize.ShloMosaic

namespace Cert.Attn

/-- A number whose absolute value is below the greatest is real. -/
theorem real_of_lt (x : EReal) (h : (max x (-x) : EReal) < ⊤) : ((x.toReal : ℝ) : EReal) = x :=
  EReal.coe_toReal (fun e => by rw [e] at h; simp at h) (fun e => by rw [e] at h; simp at h)

/-- A number that compares below the word of the greatest in absolute value is real. -/
theorem real_of_cmp (x top : EReal) (htop : top = ⊤) (h : Ideal.cmp .olt (max x (-x) : EReal) top = 1#1) :
    ((x.toReal : ℝ) : EReal) = x :=
  real_of_lt x (by
    by_contra hn
    have e : Ideal.cmp .olt (max x (-x) : EReal) top = BitVec.ofBool (decide ((max x (-x) : EReal) < top)) := rfl
    rw [e, htop, decide_eq_false hn] at h
    exact absurd h (by decide))

/-- The entries of an array of rank three, as a function of natural numbers. -/
theorem named3 {a b c : ℕ} (x : (⟨3, ![a, b, c]⟩ : Shape).Idx → EReal) :
    ∃ f : ℕ → ℕ → ℕ → EReal, ∀ (i : Fin a) (j : Fin b) (k : Fin c), x (ix3 i j k) = f i j k :=
  ⟨fun i j k => if h : i < a ∧ j < b ∧ k < c then x (ix3 ⟨i, h.1⟩ ⟨j, h.2.1⟩ ⟨k, h.2.2⟩) else 0,
    fun i j k => by
      show _ = dite (i.val < a ∧ j.val < b ∧ k.val < c) _ _
      rw [dif_pos ⟨i.isLt, j.isLt, k.isLt⟩]⟩

end Cert.Attn

end
-- ==== Proof.BandEq.lean ====
/-
  The banded-attention kernel and its reference end with one array, of finite arguments.
-/
module

public import proofs.«01_k».proof.Proof.BandBlock
public import proofs.«01_k».proof.Proof.BandRef
public import proofs.«01_k».proof.Proof.BandMath
public import proofs.«01_k».proof.Proof.Finite
public import proofs.«01_k».proof.Pre_band_finite

@[expose] public section

set_option maxRecDepth 16384

noncomputable section

open Idealize.ShloMosaic Idealize.ShloMosaic.TcCoe Idealize.SL.Sem
open Cert.BandIdeal Cert.BandIdeal.Gen Cert.BandIdeal.Value Cert.Attn

namespace Cert.BandEq

/-! ## The arguments are real -/

/-- The precondition makes every query and every key real. -/
theorem real_qk [Cert.Pre_band_finite.Facts] (x0 : Vec Ideal S16x2048x768 .bf16) (x1 : Vec Ideal S4x256x768 .f32)
    (h : (Cert.Pre_band_finite.fn (F := Ideal) x0 x1).1 = fun _ => 1#1) (b : Fin 16) (r : Fin 2048) (j : Fin 768) (hj : j.val < 512) :
    (((x0 (ix3 b r j) : EReal).toReal : ℝ) : EReal) = x0 (ix3 b r j) := by
  have e : extractStridedSlice Cert.Pre_band_finite.S16x2048x512 ![0, 0, 0] x0 Cert.Pre_band_finite.Facts.slices_S16x2048x768_S16x2048x512_0_0_0
      (ix3 b r ⟨j.val, hj⟩) = x0 (ix3 b r j) :=
    congrArg x0 (funext fun a => Fin.ext (by
      match a with | ⟨0, _⟩ => exact Nat.zero_add _ | ⟨1, _⟩ => exact Nat.zero_add _ | ⟨2, _⟩ => exact Nat.zero_add _))
  rw [← e]
  exact real_of_cmp _ (Ideal.ofBits .bf16 0x7F80#16) (by simp [Ideal.ofBits, Ideal.ieee]) (congrFun h _)

/-- The precondition makes every bias real. -/
theorem real_bias [Cert.Pre_band_finite.Facts] (x0 : Vec Ideal S16x2048x768 .bf16) (x1 : Vec Ideal S4x256x768 .f32)
    (h : (Cert.Pre_band_finite.fn (F := Ideal) x0 x1).2 = fun _ => 1#1) (g : Fin 4) (r : Fin 256) (s : Fin 768) :
    (((x1 (ix3 g r s) : EReal).toReal : ℝ) : EReal) = x1 (ix3 g r s) :=
  real_of_cmp _ (Ideal.ofBits .f32 0x7F800000#32) (by simp [Ideal.ofBits, Ideal.ieee]) (congrFun h _)

/-- The word of an eighth. -/
theorem eighth : Ideal.ofBits .f32 0x3E000000#32 = (((1 : ℝ) / 8 : ℝ) : EReal) := by
  simp [Ideal.ofBits, Ideal.ieee, -EReal.coe_mul]; norm_num

variable {m : (ℓ : Loc nD τ sig) → Buf (Elt Ideal) ℓ} {c : Dev nD} {X Z : ℕ → ℕ → ℕ → ℝ} {V : ℕ → ℕ → ℕ → EReal}
  (hX : ∀ (b : Fin 16) (r : Fin 2048) (j : Fin 768), j.val < 512 → aX m c (ix3 b r j) = (X b r j : EReal))
  (hV : ∀ (b : Fin 16) (r : Fin 2048) (j : Fin 768), aX m c (ix3 b r j) = V b r j)
  (hZ : ∀ (g : Fin 4) (r : Fin 256) (s : Fin 768), aZ m c (ix3 g r s) = (Z g r s : EReal))

include hZ in
/-- The spread bias at an index: the bias of the key's place in the query's window, nothing outside it. -/
theorem bias_window (b : Fin 16) (h : Fin 4) (R k : Fin 2048) :
    Cert.BandRefIdeal.Read.val_main_v34 (F := Ideal) (aZ m c) (ix4 b h R k)
      = if first (R.val / 256) ≤ k.val ∧ k.val < first (R.val / 256) + width (R.val / 256)
        then (Z h (R.val % 256) (768 - width (R.val / 256) + (k.val - first (R.val / 256))) : EReal) else ⊥ := by
  have hR := R.isLt
  have hk := k.isLt
  have at_ : ∀ (s : Fin 768), s.val = 768 - width (R.val / 256) + (k.val - first (R.val / 256)) →
      aZ m c (ix3 h ⟨R.val % 256, by omega⟩ s)
        = (Z h (R.val % 256) (768 - width (R.val / 256) + (k.val - first (R.val / 256))) : EReal) := fun s e => by
    rw [← e]
    exact hZ h ⟨R.val % 256, by omega⟩ s
  rw [Cert.BandRefIdeal.Value.v34_at, Cert.BandRefIdeal.Value.v31_at]
  unfold width first at at_ ⊢
  dsimp only
  split
  · rw [if_pos (by omega)]
    exact at_ _ (by dsimp only; omega)
  split
  · rw [if_pos (by omega)]
    exact at_ _ (by dsimp only; omega)
  split
  · rw [if_pos (by omega)]
    exact at_ _ (by dsimp only; omega)
  · rw [if_neg (by omega)]

include hX hV hZ

/-- The kernel's result at an index. -/
theorem kernel_at (b : Fin 16) (R : Fin 2048) (j : Fin 256) :
    ((dats m 0 c).arrAt 4 cfg0.N : Vec Ideal S16x2048x256 .bf16) (ix3 b R j) = bandRow X Z V (width (R.val / 256)) (first (R.val / 256)) (768 - width (R.val / 256)) b R j := by
  have hN : cfg0.N = 128 := N_0
  have hb := b.isLt
  have hR := R.isLt
  let t : Fin cfg0.N := ⟨8 * b.val + R.val / 256, by omega⟩
  have htb : t.val / 8 = b.val := by show (8 * b.val + R.val / 256) / 8 = b.val; omega
  have htr : t.val % 8 = R.val / 256 := by show (8 * b.val + R.val / 256) % 8 = R.val / 256; omega
  have e := congrFun (blocks4 m c t ((by decide +kernel : ∀ t : Fin cfg0.N, (cfg0.win 4).flush t = true) t)) (ix3 0 ⟨R.val % 256, by omega⟩ j)
  rw [View.read_apply] at e
  refine Eq.trans (congrArg ((dats m 0 c).arrAt 4 cfg0.N : Vec Ideal S16x2048x256 .bf16) (funext fun a => Fin.ext ?_))
    (e.trans ((flushed_at hX hV hZ t ⟨R.val % 256, by omega⟩ j).trans ?_))
  · have w := (wfacts t).2.2.2.2
    have i0 : win0_4.index t (0 : Fin 3) = t.val / 8 := congrFun w 0
    have i1 : win0_4.index t (1 : Fin 3) = t.val % 8 := congrFun w 1
    have i2 : win0_4.index t (2 : Fin 3) = 0 := congrFun w 2
    match a with
    | ⟨0, _⟩ => show b.val = win0_4.index t (0 : Fin 3) * 1 + 1 * 0; omega
    | ⟨1, _⟩ => show R.val = win0_4.index t (1 : Fin 3) * 256 + 1 * (R.val % 256); omega
    | ⟨2, _⟩ => show j.val = win0_4.index t (2 : Fin 3) * 256 + 1 * j.val; omega
  · rw [htb, htr]
    show bandRow X Z V _ _ _ b.val (256 * (R.val / 256) + R.val % 256) j.val = _
    rw [Nat.div_add_mod]

/-- The reference's result at an index. -/
theorem reference_at (b : Fin 16) (R : Fin 2048) (j : Fin 256) :
    Cert.BandRefIdeal.Read.val_main_v50 (F := Ideal) (aX m c) (aZ m c) (ix3 b R j)
      = bandRow X Z V (width (R.val / 256)) (first (R.val / 256)) (768 - width (R.val / 256)) b R j := by
  have hj := j.isLt
  have hR := R.isLt
  refine (Cert.BandRefIdeal.Value.v50_at _ _ b R j).trans ?_
  refine (attRef_window (n := width (R.val / 256)) (lo := first (R.val / 256))
    (l := fun s => (∑ d : Fin 64, X b R (j.val / 64 * 64 + d.val) * (1 / 8) * X b s (256 + (j.val / 64 * 64 + d.val)))
      + Z (j.val / 64) (R.val % 256) (768 - width (R.val / 256) + (s - first (R.val / 256))))
    (x := fun s => V b s (512 + j)) (by unfold width first; omega) (by unfold width first; omega) (fun k => ?_) fun k => ?_).trans ?_
  · have hk := k.isLt
    have e : Cert.BandRefIdeal.Read.val_main_v35 (F := Ideal) (aX m c) (aZ m c) (ix4 b ⟨j.val / 64, by omega⟩ R k)
        = Cert.BandRefIdeal.Read.val_main_v9 (F := Ideal) (aX m c) (ix4 b ⟨j.val / 64, by omega⟩ R k)
          + Cert.BandRefIdeal.Read.val_main_v34 (F := Ideal) (aZ m c) (ix4 b ⟨j.val / 64, by omega⟩ R k) := rfl
    rw [e, Cert.BandRefIdeal.Value.v9_at, eighth]
    have p : (∑ d : Fin 64, aX m c (ix3 b R ⟨j.val / 64 * 64 + d.val, by omega⟩) * aX m c (ix3 b k ⟨256 + (j.val / 64 * 64 + d.val), by omega⟩))
        = ((∑ d : Fin 64, X b R (j.val / 64 * 64 + d.val) * X b k (256 + (j.val / 64 * 64 + d.val)) : ℝ) : EReal) := by
      rw [coe_sum]
      exact Finset.sum_congr rfl fun d _ => (congrArg₂ (· * ·) (hX b R ⟨j.val / 64 * 64 + d.val, by omega⟩ (show j.val / 64 * 64 + d.val < 512 by omega))
        (hX b k ⟨256 + (j.val / 64 * 64 + d.val), by omega⟩ (show 256 + (j.val / 64 * 64 + d.val) < 512 by omega))).trans (EReal.coe_mul _ _).symm
    rw [p, bias_window hZ, ← EReal.coe_mul]
    by_cases hw : first (R.val / 256) ≤ k.val ∧ k.val < first (R.val / 256) + width (R.val / 256)
    · rw [if_pos hw, if_pos hw, ← EReal.coe_add]
      refine congrArg Real.toEReal (congrArg (· + _) ?_)
      rw [Finset.sum_mul]
      exact Finset.sum_congr rfl fun d _ => by ring
    · rw [if_neg hw, if_neg hw]
      exact EReal.add_bot _
  · exact hV b k ⟨512 + j.val, by omega⟩
  · unfold bandRow
    simp only [Nat.add_sub_cancel_left]

omit hX hV hZ in
/-- The two results are one array, of finite arguments. -/
theorem result [Cert.Pre_band_finite.Facts] (c : Dev nD)
    (h : (Cert.Pre_band_finite.fn (F := Ideal) (aX m c) (aZ m c)).1 = (fun _ => 1#1) ∧ (Cert.Pre_band_finite.fn (F := Ideal) (aX m c) (aZ m c)).2 = fun _ => 1#1) :
    Cert.BandRefIdeal.Read.val_main_v50 (F := Ideal) (aX m c) (aZ m c) = (dats m 0 c).arrAt 4 cfg0.N := by
  obtain ⟨V, hV⟩ := named3 (aX m c)
  obtain ⟨C, hC⟩ := named3 (aZ m c)
  have hZ : ∀ (g : Fin 4) (r : Fin 256) (s : Fin 768), aZ m c (ix3 g r s) = ((C g r s).toReal : EReal) :=
    fun g r s => by rw [← hC]; exact (real_bias _ _ h.2 g r s).symm
  have hX : ∀ (b : Fin 16) (r : Fin 2048) (j : Fin 768), j.val < 512 → aX m c (ix3 b r j) = ((V b r j).toReal : EReal) :=
    fun b r j hj => by rw [← hV]; exact (real_qk _ _ h.1 b r j hj).symm
  funext i
  rw [show i = ix3 (i 0) (i 1) (i 2) from (funext fun a => by match a with | ⟨0, _⟩ => rfl | ⟨1, _⟩ => rfl | ⟨2, _⟩ => rfl)]
  exact (reference_at (X := fun b r j => (V b r j).toReal) (Z := fun g r s => (C g r s).toReal) hX hV hZ (i 0) (i 1) (i 2)).trans
    (kernel_at (X := fun b r j => (V b r j).toReal) (Z := fun g r s => (C g r s).toReal) hX hV hZ (i 0) (i 1) (i 2)).symm

end Cert.BandEq

end
-- ==== Proof.FoxBlock.lean ====
/-
  What one grid point of the forgetting-attention kernel writes back: the tile of its 256 queries against the keys up to
  them, for each of the eight query tiles.
-/
module

public import proofs.«01_k».proof.Proof.Gen.FoxIdeal.Value
public import proofs.«01_k».proof.Proof.FoxTile
public import Idealize.ShloMosaic.Lib.WordCmp
public import Idealize.ShloMosaic.Lib.Pipeline.ValueKit.Tiles

@[expose] public section

set_option maxRecDepth 16384

noncomputable section

open Idealize.ShloMosaic Idealize.ShloMosaic.TcCoe Idealize.SL.Sem
open Cert.FoxIdeal Cert.FoxIdeal.Gen Cert.Attn Cert.FoxTile

namespace Cert.FoxIdeal.Value

theorem hz3 : (![0, 0, 0] : Fin 3 → Nat) = fun _ => 0 := funext fun a => by fin_cases a <;> rfl

/-- The conditions under which the first `W` of 2048 keys are read. -/
structure Reads (W : ℕ) : Prop extends Fits W where
  rows : ∀ a, (![0, 0, 0] : Fin 3 → Nat) a + (Cube 1 W 256).size a ≤ (Cube 1 2048 256).size a
  cols : ∀ a, (![0, 0, 0] : Fin 3 → Nat) a + (Cube 1 8 W).size a ≤ (Cube 1 8 2048).size a

/-- The tile against the first `W` keys of the blocks a grid point reads. -/
def block {W : ℕ} (hR : Reads W) (mask : FVec Ideal (Mat 256 W) .f32 → FVec Ideal (Mat 256 W) .f32)
    (x0 : Vec Ideal S1x256x256 .bf16) (x1 x2 : Vec Ideal S1x2048x256 .bf16) (x3 : Vec Ideal S1x8x2048 .f32) : Vec Ideal S1x256x256 .bf16 :=
  tile hR.toFits mask x0 (View.ld x1 (Rect.unit (s := S1x2048x256) ![0, 0, 0] (Cube 1 W 256).size hR.rows))
    (View.ld x2 (Rect.unit (s := S1x2048x256) ![0, 0, 0] (Cube 1 W 256).size hR.rows))
    (View.ld x3 (Rect.unit (s := S1x8x2048) ![0, 0, 0] (Cube 1 8 W).size hR.cols))

/-- The kernel's mask value, everywhere. -/
def neg : FVec Ideal (Mat 256 256) .f32 := broadcast (Mat 256 256) (Named.named κ "mask" 0xF149F2CA#32)

/-- The triangular mask on the last 256 keys of `P + 256`. -/
def tri (P W : ℕ) (h0 : (Mat 256 W).Slices ![0, 0] (Mat 256 P)) (h1 : (Mat 256 W).Slices ![0, P] (Mat 256 256))
    (hC : Shape.Concatenates [Mat 256 P, Mat 256 256] (Mat 256 W) 1) : FVec Ideal (Mat 256 W) .f32 → FVec Ideal (Mat 256 W) .f32 :=
  maskTail P W h0 h1 hC k0_pay13 neg

variable (m : (ℓ : Loc nD τ sig) → Buf (Elt Ideal) ℓ)

/-- The arguments, by name. -/
abbrev aX (c : Dev nD) : Vec Ideal S16x2048x768 .bf16 := m ((c.tc : Thread nD τ).loc main_arg0)
abbrev aC (c : Dev nD) : Vec Ideal S16x8x2048 .f32 := m ((c.tc : Thread nD τ).loc main_arg1)

/-- The triangular mask at an index. -/
theorem ok_at (r k : Fin 256) : k0_pay13 (ix2 r k) = 1#1 ↔ k.val ≤ r.val := by
  pointwise [k0_pay13]
  exact WordCmp.cmpi_sle_ofNat_eq_one_iff (by omega) (by omega)

/-- The mask value is the least number. -/
theorem neg_at (i : (Mat 256 256).Idx) : neg i = ⊥ := rfl

/-- The scores masked above the diagonal. -/
theorem diag_at (s : FVec Ideal (Mat 256 256) .f32) (r k : Fin 256) :
    select k0_pay13 s neg (ix2 r k) = if k.val < 0 + r.val + 1 then s (ix2 r k) else ⊥ := by
  show (if k0_pay13 (ix2 r k) = 1#1 then s (ix2 r k) else neg (ix2 r k)) = _
  exact if_congr ((ok_at r k).trans (by omega)) rfl (neg_at _)

/-- The scores with their last 256 columns masked above the diagonal. -/
theorem tri_at (P W : ℕ) (hW : W = P + 256) (h0 h1 hC) (s : FVec Ideal (Mat 256 W) .f32) (r : Fin 256) (k : Fin W) :
    tri P W h0 h1 hC s (ix2 r k) = if k.val < P + r.val + 1 then s (ix2 r k) else ⊥ := by
  unfold tri
  rw [maskTail_at P W hW]
  split
  · rw [if_pos (by omega)]
  · exact if_congr ((ok_at r _).trans (by show k.val - P ≤ r.val ↔ _; omega)) rfl (neg_at _)

/-- The windows' block indices at point `t`, decided over the grid. -/
theorem wfacts : ∀ t : Fin cfg0.N, win0_0.index t = ![t.val / 8, t.val % 8, 0] ∧ win0_1.index t = ![t.val / 8, 0, 1]
    ∧ win0_2.index t = ![t.val / 8, 0, 2] ∧ win0_3.index t = ![t.val / 8, 0, 0] ∧ win0_4.index t = ![t.val / 8, t.val % 8, 0] :=
  (by decide +kernel : ∀ t : Fin grid0.N, _)

section
variable {m} {c : Dev nD} {X C : ℕ → ℕ → ℕ → ℝ} {V : ℕ → ℕ → ℕ → EReal}
  (hX : ∀ (b : Fin 16) (r : Fin 2048) (j : Fin 768), j.val < 512 → aX m c (ix3 b r j) = (X b r j : EReal))
  (hV : ∀ (b : Fin 16) (r : Fin 2048) (j : Fin 768), aX m c (ix3 b r j) = V b r j)
  (hC : ∀ (b : Fin 16) (g : Fin 8) (r : Fin 2048), g.val < 4 → aC m c (ix3 b g r) = (C b g r : EReal)) (t : Fin cfg0.N)
include hX

theorem blk_0 (r j : Fin 256) : iblk m c 0 t (ix3 0 r j) = (X (t.val / 8) (256 * (t.val % 8) + r.val) j : EReal) := by
  have hN := lt_of_lt_of_eq t.isLt (show cfg0.N = 128 from N_0)
  have e := (wfacts t).1
  have i0 : win0_0.index t (0 : Fin 3) = t.val / 8 := congrFun e 0
  have i1 : win0_0.index t (1 : Fin 3) = t.val % 8 := congrFun e 1
  have i2 : win0_0.index t (2 : Fin 3) = 0 := congrFun e 2
  unfold iblk
  rw [View.read_apply]
  refine Eq.trans (congrArg (aX m c) (funext fun a => Fin.ext ?_))
    (hX ⟨t.val / 8, by omega⟩ ⟨256 * (t.val % 8) + r.val, by omega⟩ ⟨j.val, by omega⟩ (show j.val < 512 by omega))
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 256 + 1 * j.val = j.val; omega

theorem blk_1 (s : Fin 2048) (j : Fin 256) : iblk m c 1 t (ix3 0 s j) = (X (t.val / 8) s (256 + j.val) : EReal) := by
  have hN := lt_of_lt_of_eq t.isLt (show cfg0.N = 128 from N_0)
  have e := (wfacts t).2.1
  have i0 : win0_1.index t (0 : Fin 3) = t.val / 8 := congrFun e 0
  have i1 : win0_1.index t (1 : Fin 3) = 0 := congrFun e 1
  have i2 : win0_1.index t (2 : Fin 3) = 1 := congrFun e 2
  unfold iblk
  rw [View.read_apply]
  refine Eq.trans (congrArg (aX m c) (funext fun a => Fin.ext ?_)) (hX ⟨t.val / 8, by omega⟩ s ⟨256 + j.val, by omega⟩ (show 256 + j.val < 512 by omega))
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 256 + 1 * j.val = 256 + j.val; omega

omit hX
include hV in
theorem blk_2 (s : Fin 2048) (j : Fin 256) : iblk m c 2 t (ix3 0 s j) = V (t.val / 8) s (512 + j.val) := by
  have hN := lt_of_lt_of_eq t.isLt (show cfg0.N = 128 from N_0)
  have e := (wfacts t).2.2.1
  have i0 : win0_2.index t (0 : Fin 3) = t.val / 8 := congrFun e 0
  have i1 : win0_2.index t (1 : Fin 3) = 0 := congrFun e 1
  have i2 : win0_2.index t (2 : Fin 3) = 2 := congrFun e 2
  unfold iblk
  rw [View.read_apply]
  refine Eq.trans (congrArg (aX m c) (funext fun a => Fin.ext ?_)) (hV ⟨t.val / 8, by omega⟩ s ⟨512 + j.val, by omega⟩)
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ => show win0_2.index t (2 : Fin 3) * 256 + 1 * j.val = 512 + j.val; omega

include hC in
theorem blk_3 (g : Fin 8) (s : Fin 2048) (hg : g.val < 4) : iblk m c 3 t (ix3 0 g s) = (C (t.val / 8) g s : EReal) := by
  have hN := lt_of_lt_of_eq t.isLt (show cfg0.N = 128 from N_0)
  have e := (wfacts t).2.2.2.1
  have i0 : win0_3.index t (0 : Fin 3) = t.val / 8 := congrFun e 0
  have i1 : win0_3.index t (1 : Fin 3) = 0 := congrFun e 1
  have i2 : win0_3.index t (2 : Fin 3) = 0 := congrFun e 2
  unfold iblk
  rw [View.read_apply]
  refine Eq.trans (congrArg (aC m c) (funext fun a => Fin.ext ?_)) (hC ⟨t.val / 8, by omega⟩ g s hg)
  match a with
  | ⟨0, _⟩ => show win0_3.index t (0 : Fin 3) * 1 + 1 * 0 = t.val / 8; omega
  | ⟨1, _⟩ => show win0_3.index t (1 : Fin 3) * 8 + 1 * g.val = g.val; omega
  | ⟨2, _⟩ => show win0_3.index t (2 : Fin 3) * 2048 + 1 * s.val = s.val; omega

/-- What query row `R` of batch `b` is at column `j`: the mean of the values up to it, by its decayed scores. -/
def foxRow (X C : ℕ → ℕ → ℕ → ℝ) (V : ℕ → ℕ → ℕ → EReal) (b R j : ℕ) : EReal :=
  mean (R + 1) (fun s => (∑ d : Fin 64, X b R (j / 64 * 64 + d.val) * (1 / 8) * X b s (256 + (j / 64 * 64 + d.val))) - C b (j / 64) s)
    fun s => V b s (512 + j)

include hX hV hC in
/-- A point whose write-back is the tile against the first `P + 256` keys writes back its rows. -/
theorem of_block {W P : ℕ} (hW : W = P + 256) (hP : P = 256 * (t.val % 8)) (hR : Reads W)
    (mask : FVec Ideal (Mat 256 W) .f32 → FVec Ideal (Mat 256 W) .f32)
    (hmask : ∀ (s : FVec Ideal (Mat 256 W) .f32) (r : Fin 256) (k : Fin W),
      mask s (ix2 r k) = if k.val < P + r.val + 1 then s (ix2 r k) else ⊥)
    (e : (dats m 0 c).flushed 4 t = block hR mask (iblk m c 0 t) (iblk m c 1 t) (iblk m c 2 t) (iblk m c 3 t)) (r j : Fin 256) :
    ((dats m 0 c).flushed 4 t : Vec Ideal S1x256x256 .bf16) (ix3 0 r j) = foxRow X C V (t.val / 8) (256 * (t.val % 8) + r.val) j.val := by
  have hl : W ≤ 2048 := by have := t.isLt; omega
  rw [e]
  unfold block
  refine (tile_at hR.toFits mask hW hmask (qr := fun r j => X (t.val / 8) (256 * (t.val % 8) + r) j)
    (kr := fun s j => X (t.val / 8) s (256 + j)) (vr := fun s j => V (t.val / 8) s (512 + j)) (cr := fun g s => C (t.val / 8) g s)
    _ _ _ _ (blk_0 hX t) (fun s j => ?_) (fun s j => ?_) (fun g s hg => ?_) r j).trans ?_
  · exact (View.ld_unit_apply_of _ _ _ _ _ (ix3 0 ⟨s.val, by omega⟩ j) fun a => by
      match a with | ⟨0, _⟩ => rfl | ⟨1, _⟩ => exact (Nat.zero_add _).symm | ⟨2, _⟩ => exact (Nat.zero_add _).symm).trans (blk_1 hX t ⟨s.val, by omega⟩ j)
  · exact (View.ld_unit_apply_of _ _ _ _ _ (ix3 0 ⟨s.val, by omega⟩ j) fun a => by
      match a with | ⟨0, _⟩ => rfl | ⟨1, _⟩ => exact (Nat.zero_add _).symm | ⟨2, _⟩ => exact (Nat.zero_add _).symm).trans (blk_2 hV t ⟨s.val, by omega⟩ j)
  · exact (View.ld_unit_apply_of _ _ _ _ _ (ix3 0 g ⟨s.val, by omega⟩) fun a => by
      match a with | ⟨0, _⟩ => rfl | ⟨1, _⟩ => exact (Nat.zero_add _).symm | ⟨2, _⟩ => exact (Nat.zero_add _).symm).trans (blk_3 hC t g ⟨s.val, by omega⟩ hg)
  · rw [hP]
    rfl

include hX hV hC in
/-- What any point writes back. -/
theorem flushed_at (r j : Fin 256) :
    ((dats m 0 c).flushed 4 t : Vec Ideal S1x256x256 .bf16) (ix3 0 r j) = foxRow X C V (t.val / 8) (256 * (t.val % 8) + r.val) j.val := by
  obtain h | h | h | h | h | h | h | h : t.val % 8 = 0 ∨ t.val % 8 = 1 ∨ t.val % 8 = 2 ∨ t.val % 8 = 3 ∨ t.val % 8 = 4
    ∨ t.val % 8 = 5 ∨ t.val % 8 = 6 ∨ t.val % 8 = 7 := by omega
  case' inl =>
    refine of_block hX hV hC t (W := 256) (P := 0) rfl (by omega) ⟨by constructor <;> decide, by decide, by decide⟩ _ diag_at ?_ r j
    rw [flushed4_A m c t h (by omega) (by omega) (by omega) (by omega) (by omega) (by omega) (by omega), out0_A_4,
      View.read_writes_eq_canon _ _ _ (cover0_A_4 c _ _ _ _ _ _ _ _ _ _ _ _ _ _ _ _ _ _ _ _ _ _ _), kernelRun0_A]
  case' inr.inl =>
    refine of_block hX hV hC t (W := 512) (P := 256) rfl (by omega) ⟨by constructor <;> decide, by decide, by decide⟩ _ (tri_at 256 512 rfl (by decide) (by decide) (by decide)) ?_ r j
    rw [flushed4_B m c t (by omega) h (by omega) (by omega) (by omega) (by omega) (by omega) (by omega), out0_B_4,
      View.read_writes_eq_canon _ _ _ (cover0_B_4 c _ _ _ _ _ _ _ _ _ _ _ _ _ _ _ _ _ _ _ _ _ _ _), kernelRun0_B]
  case' inr.inr.inl =>
    refine of_block hX hV hC t (W := 768) (P := 512) rfl (by omega) ⟨by constructor <;> decide, by decide, by decide⟩ _ (tri_at 512 768 rfl (by decide) (by decide) (by decide)) ?_ r j
    rw [flushed4_C m c t (by omega) (by omega) h (by omega) (by omega) (by omega) (by omega) (by omega), out0_C_4,
      View.read_writes_eq_canon _ _ _ (cover0_C_4 c _ _ _ _ _ _ _ _ _ _ _ _ _ _ _ _ _ _ _ _ _ _ _), kernelRun0_C]
  case' inr.inr.inr.inl =>
    refine of_block hX hV hC t (W := 1024) (P := 768) rfl (by omega) ⟨by constructor <;> decide, by decide, by decide⟩ _ (tri_at 768 1024 rfl (by decide) (by decide) (by decide)) ?_ r j
    rw [flushed4_D m c t (by omega) (by omega) (by omega) h (by omega) (by omega) (by omega) (by omega), out0_D_4,
      View.read_writes_eq_canon _ _ _ (cover0_D_4 c _ _ _ _ _ _ _ _ _ _ _ _ _ _ _ _ _ _ _ _ _ _ _), kernelRun0_D]
  case' inr.inr.inr.inr.inl =>
    refine of_block hX hV hC t (W := 1280) (P := 1024) rfl (by omega) ⟨by constructor <;> decide, by decide, by decide⟩ _ (tri_at 1024 1280 rfl (by decide) (by decide) (by decide)) ?_ r j
    rw [flushed4_E m c t (by omega) (by omega) (by omega) (by omega) h (by omega) (by omega) (by omega), out0_E_4,
      View.read_writes_eq_canon _ _ _ (cover0_E_4 c _ _ _ _ _ _ _ _ _ _ _ _ _ _ _ _ _ _ _ _ _ _ _), kernelRun0_E]
  case' inr.inr.inr.inr.inr.inl =>
    refine of_block hX hV hC t (W := 1536) (P := 1280) rfl (by omega) ⟨by constructor <;> decide, by decide, by decide⟩ _ (tri_at 1280 1536 rfl (by decide) (by decide) (by decide)) ?_ r j
    rw [flushed4_F m c t (by omega) (by omega) (by omega) (by omega) (by omega) h (by omega) (by omega), out0_F_4,
      View.read_writes_eq_canon _ _ _ (cover0_F_4 c _ _ _ _ _ _ _ _ _ _ _ _ _ _ _ _ _ _ _ _ _ _ _), kernelRun0_F]
  case' inr.inr.inr.inr.inr.inr.inl =>
    refine of_block hX hV hC t (W := 1792) (P := 1536) rfl (by omega) ⟨by constructor <;> decide, by decide, by decide⟩ _ (tri_at 1536 1792 rfl (by decide) (by decide) (by decide)) ?_ r j
    rw [flushed4_G m c t (by omega) (by omega) (by omega) (by omega) (by omega) (by omega) h (by omega), out0_G_4,
      View.read_writes_eq_canon _ _ _ (cover0_G_4 c _ _ _ _ _ _ _ _ _ _ _ _ _ _ _ _ _ _ _ _ _ _ _), kernelRun0_G]
  case' inr.inr.inr.inr.inr.inr.inr =>
    refine of_block hX hV hC t (W := 2048) (P := 1792) rfl (by omega) ⟨by constructor <;> decide, by decide, by decide⟩ _ (tri_at 1792 2048 rfl (by decide) (by decide) (by decide)) ?_ r j
    rw [flushed4_H m c t (by omega) (by omega) (by omega) (by omega) (by omega) (by omega) (by omega) h, out0_H_4,
      View.read_writes_eq_canon _ _ _ (cover0_H_4 c _ _ _ _ _ _ _ _ _ _ _ _ _ _ _ _ _ _ _ _ _ _ _), kernelRun0_H]
  all_goals
    dsimp only
    sl_unfold_words
    rw [View.canon_unit_zero (S := S1x256x256) hz3]
    simp only [View.readAt_eq_ld, (hs0_0 t).read_unread, (hs0_1 t).read_unread, (hs0_2 t).read_unread, (hs0_3 t).read_unread,
      View.ld_unit_zero (S := S1x256x256) hz3]
    rfl
end

end Cert.FoxIdeal.Value

end
-- ==== Proof.FoxRef.lean ====
/-
  The forgetting-attention reference at the ideal instance, read at an index.
-/
module

public import proofs.«01_k».proof.Proof.Gen.FoxRefIdeal.Read
public import proofs.«01_k».proof.Proof.AttnMath
public import Idealize.ShloMosaic.Lib.WordCmp

@[expose] public section

set_option maxRecDepth 16384

noncomputable section

open Idealize.ShloMosaic Idealize.ShloMosaic.TcCoe Idealize.SL.Sem
open Cert.FoxRefIdeal Cert.FoxRefIdeal.Gen Cert.FoxRefIdeal.Read Cert.Attn

namespace Cert.FoxRefIdeal.Value

variable (x0 : Vec Ideal S16x2048x768 .bf16) (x1 : Vec Ideal S16x8x2048 .f32)

/-- The scores before their mask, at an index. -/
theorem v10_at (b : Fin 16) (h : Fin 4) (r k : Fin 2048) :
    val_main_v10 (F := Ideal) x0 (ix4 b h r k)
      = (∑ d : Fin 64, x0 (ix3 b r ⟨h.val * 64 + d.val, by omega⟩) * x0 (ix3 b k ⟨256 + (h.val * 64 + d.val), by omega⟩))
          * Ideal.ofBits .f32 0x3E000000#32 := by
  pointwise [val_main_v10, val_main_v9, val_main_cst, val_main_v8, val_main_v4, val_main_v5, val_main_v1, val_main_v2, val_main_v0]

/-- The mask and the decay, at an index. -/
theorem v22_at (b : Fin 16) (h : Fin 4) (r k : Fin 2048) :
    val_main_v22 (F := Ideal) x1 (ix4 b h r k)
      = if k.val ≤ r.val then x1 (ix3 b ⟨h.val, by omega⟩ r) - x1 (ix3 b ⟨h.val, by omega⟩ k) else ⊥ := by
  pointwise [val_main_v22, val_main_call0_v2, val_main_call0_v1, val_main_call0_v0, val_main_cst_0, val_main_v21, val_main_v20, val_main_v19, val_main_v18, val_main_v17, val_main_v16, val_main_v15, val_main_v14, val_main_v13, val_main_v12, val_main_v11, val_main_v7]
  rw [show (id (constant (F := Ideal) S_ .f32 0xFF800000#32) ix0 : EReal) = ⊥ from least]
  unfold Scalar.select
  exact if_congr (WordCmp.cmpi_sle_ofNat_eq_one_iff (by omega) (by omega)) rfl rfl

/-- The largest along the last axis, of any scores. -/
theorem max_at (y : FVec Ideal S16x4x2048x2048 .f32) (b : Fin 16) (h : Fin 4) (r : Fin 2048) :
    Host.reduce FloatOps.maximumf y (constant (F := Ideal) S_ .f32 0xFF800000#32) reducesTo_S16x4x2048x2048_S16x4x2048_d3 h_S_ (ix3 b h r)
      = top fun k => y (ix4 b h r k) := by
  pointwise [top]
  rw [least]

/-- The largest score. -/
theorem v26_at (b : Fin 16) (h : Fin 4) (r : Fin 2048) :
    val_main_v26 (F := Ideal) x0 x1 (ix3 b h r) = top fun k => val_main_v23 (F := Ideal) x0 x1 (ix4 b h r k) := by
  have e : val_main_v24 (F := Ideal) x0 x1 (ix3 b h r) = top fun k => val_main_v23 (F := Ideal) x0 x1 (ix4 b h r k) :=
    max_at (val_main_v23 (F := Ideal) x0 x1) b h r
  rw [val_main_v26_apply, e]
  pointwise [val_main_v25, val_main_cst_2]
  rw [least, max_eq_right bot_le]

/-- The exponentials. -/
theorem v30_at (b : Fin 16) (h : Fin 4) (r k : Fin 2048) :
    val_main_v30 (F := Ideal) x0 x1 (ix4 b h r k)
      = Ideal.exp (val_main_v23 (F := Ideal) x0 x1 (ix4 b h r k) - top fun k => val_main_v23 (F := Ideal) x0 x1 (ix4 b h r k)) := by
  pointwise [val_main_v30, val_main_v29, val_main_v28, val_main_v27, v26_at]

/-- The normalized weights. -/
theorem v34_at (b : Fin 16) (h : Fin 4) (r k : Fin 2048) :
    val_main_v34 (F := Ideal) x0 x1 (ix4 b h r k)
      = Ideal.div (val_main_v30 (F := Ideal) x0 x1 (ix4 b h r k)) (∑ k, val_main_v30 (F := Ideal) x0 x1 (ix4 b h r k)) := by
  pointwise [val_main_v34, val_main_v33, val_main_v32, val_main_v31, val_main_cst_3]

/-- The result at an index. -/
theorem v38_at (b : Fin 16) (r : Fin 2048) (j : Fin 256) :
    val_main_v38 (F := Ideal) x0 x1 (ix3 b r j)
      = attRef (fun k => val_main_v23 (F := Ideal) x0 x1 (ix4 b ⟨j.val / 64, by omega⟩ r k))
          fun k => x0 (ix3 b k ⟨512 + j.val, by omega⟩) := by
  pointwise [val_main_v38, val_main_v37, val_main_v36, val_main_v35, val_main_v6, val_main_v3, val_main_v0, v34_at, v30_at, attRef]

end Cert.FoxRefIdeal.Value

end
-- ==== Proof.FoxEq.lean ====
/-
  The forgetting-attention kernel and its reference end with one array, of finite arguments.
-/
module

public import proofs.«01_k».proof.Proof.FoxBlock
public import proofs.«01_k».proof.Proof.FoxRef
public import proofs.«01_k».proof.Proof.Finite
public import proofs.«01_k».proof.Pre_fox_finite

@[expose] public section

set_option maxRecDepth 16384

noncomputable section

open Idealize.ShloMosaic Idealize.ShloMosaic.TcCoe Idealize.SL.Sem
open Cert.FoxIdeal Cert.FoxIdeal.Gen Cert.FoxIdeal.Value Cert.Attn

namespace Cert.FoxEq

/-! ## The arguments are real -/

/-- The precondition makes every query and every key real. -/
theorem real_qk [Cert.Pre_fox_finite.Facts] (x0 : Vec Ideal S16x2048x768 .bf16) (x1 : Vec Ideal S16x8x2048 .f32)
    (h : (Cert.Pre_fox_finite.fn (F := Ideal) x0 x1).1 = fun _ => 1#1) (b : Fin 16) (r : Fin 2048) (j : Fin 768) (hj : j.val < 512) :
    (((x0 (ix3 b r j) : EReal).toReal : ℝ) : EReal) = x0 (ix3 b r j) := by
  have e : extractStridedSlice Cert.Pre_fox_finite.S16x2048x512 ![0, 0, 0] x0 Cert.Pre_fox_finite.Facts.slices_S16x2048x768_S16x2048x512_0_0_0
      (ix3 b r ⟨j.val, hj⟩) = x0 (ix3 b r j) :=
    congrArg x0 (funext fun a => Fin.ext (by
      match a with | ⟨0, _⟩ => exact Nat.zero_add _ | ⟨1, _⟩ => exact Nat.zero_add _ | ⟨2, _⟩ => exact Nat.zero_add _))
  rw [← e]
  exact real_of_cmp _ (Ideal.ofBits .bf16 0x7F80#16) (by simp [Ideal.ofBits, Ideal.ieee]) (congrFun h _)

/-- The precondition makes every decay in use real. -/
theorem real_cum [Cert.Pre_fox_finite.Facts] (x0 : Vec Ideal S16x2048x768 .bf16) (x1 : Vec Ideal S16x8x2048 .f32)
    (h : (Cert.Pre_fox_finite.fn (F := Ideal) x0 x1).2 = fun _ => 1#1) (b : Fin 16) (g : Fin 8) (r : Fin 2048) (hg : g.val < 4) :
    (((x1 (ix3 b g r) : EReal).toReal : ℝ) : EReal) = x1 (ix3 b g r) := by
  have e : extractStridedSlice Cert.Pre_fox_finite.S16x4x2048 ![0, 0, 0] x1 Cert.Pre_fox_finite.Facts.slices_S16x8x2048_S16x4x2048_0_0_0
      (ix3 b ⟨g.val, hg⟩ r) = x1 (ix3 b g r) :=
    congrArg x1 (funext fun a => Fin.ext (by
      match a with | ⟨0, _⟩ => exact Nat.zero_add _ | ⟨1, _⟩ => exact Nat.zero_add _ | ⟨2, _⟩ => exact Nat.zero_add _))
  rw [← e]
  exact real_of_cmp _ (Ideal.ofBits .f32 0x7F800000#32) (by simp [Ideal.ofBits, Ideal.ieee]) (congrFun h _)

/-- The word of an eighth. -/
theorem eighth : Ideal.ofBits .f32 0x3E000000#32 = (((1 : ℝ) / 8 : ℝ) : EReal) := by
  simp [Ideal.ofBits, Ideal.ieee, -EReal.coe_mul]; norm_num

variable {m : (ℓ : Loc nD τ sig) → Buf (Elt Ideal) ℓ} {c : Dev nD} {X C : ℕ → ℕ → ℕ → ℝ} {V : ℕ → ℕ → ℕ → EReal}
  (hX : ∀ (b : Fin 16) (r : Fin 2048) (j : Fin 768), j.val < 512 → aX m c (ix3 b r j) = (X b r j : EReal))
  (hV : ∀ (b : Fin 16) (r : Fin 2048) (j : Fin 768), aX m c (ix3 b r j) = V b r j)
  (hC : ∀ (b : Fin 16) (g : Fin 8) (r : Fin 2048), g.val < 4 → aC m c (ix3 b g r) = (C b g r : EReal))
include hX hV hC

/-- The kernel's result at an index. -/
theorem kernel_at (b : Fin 16) (R : Fin 2048) (j : Fin 256) :
    ((dats m 0 c).arrAt 4 cfg0.N : Vec Ideal S16x2048x256 .bf16) (ix3 b R j) = foxRow X C V b R j := by
  have hN : cfg0.N = 128 := N_0
  have hb := b.isLt
  have hR := R.isLt
  let t : Fin cfg0.N := ⟨8 * b.val + R.val / 256, by omega⟩
  have htb : t.val / 8 = b.val := by show (8 * b.val + R.val / 256) / 8 = b.val; omega
  have htr : t.val % 8 = R.val / 256 := by show (8 * b.val + R.val / 256) % 8 = R.val / 256; omega
  have e := congrFun (blocks4 m c t ((by decide +kernel : ∀ t : Fin cfg0.N, (cfg0.win 4).flush t = true) t)) (ix3 0 ⟨R.val % 256, by omega⟩ j)
  rw [View.read_apply] at e
  refine Eq.trans (congrArg ((dats m 0 c).arrAt 4 cfg0.N : Vec Ideal S16x2048x256 .bf16) (funext fun a => Fin.ext ?_))
    (e.trans ((flushed_at hX hV hC t ⟨R.val % 256, by omega⟩ j).trans ?_))
  · have w := (wfacts t).2.2.2.2
    have i0 : win0_4.index t (0 : Fin 3) = t.val / 8 := congrFun w 0
    have i1 : win0_4.index t (1 : Fin 3) = t.val % 8 := congrFun w 1
    have i2 : win0_4.index t (2 : Fin 3) = 0 := congrFun w 2
    match a with
    | ⟨0, _⟩ => show b.val = win0_4.index t (0 : Fin 3) * 1 + 1 * 0; omega
    | ⟨1, _⟩ => show R.val = win0_4.index t (1 : Fin 3) * 256 + 1 * (R.val % 256); omega
    | ⟨2, _⟩ => show j.val = win0_4.index t (2 : Fin 3) * 256 + 1 * j.val; omega
  · rw [htb, htr]
    show foxRow X C V b.val (256 * (R.val / 256) + R.val % 256) j.val = _
    rw [Nat.div_add_mod]

/-- The reference's result at an index. -/
theorem reference_at (b : Fin 16) (R : Fin 2048) (j : Fin 256) :
    Cert.FoxRefIdeal.Read.val_main_v38 (F := Ideal) (aX m c) (aC m c) (ix3 b R j) = foxRow X C V b R j := by
  have hj := j.isLt
  refine (Cert.FoxRefIdeal.Value.v38_at _ _ b R j).trans ?_
  refine (attRef_eq (n := R.val + 1)
    (l := fun s => (∑ d : Fin 64, X b R (j.val / 64 * 64 + d.val) * (1 / 8) * X b s (256 + (j.val / 64 * 64 + d.val)))
      - C b (j.val / 64) s - -C b (j.val / 64) R) (x := fun s => V b s (512 + j)) (by omega) (by omega) (fun k => ?_) fun k => ?_).trans ?_
  · have e : Cert.FoxRefIdeal.Read.val_main_v23 (F := Ideal) (aX m c) (aC m c) (ix4 b ⟨j.val / 64, by omega⟩ R k)
        = Cert.FoxRefIdeal.Read.val_main_v10 (F := Ideal) (aX m c) (ix4 b ⟨j.val / 64, by omega⟩ R k)
          + Cert.FoxRefIdeal.Read.val_main_v22 (F := Ideal) (aC m c) (ix4 b ⟨j.val / 64, by omega⟩ R k) := rfl
    rw [e, Cert.FoxRefIdeal.Value.v10_at, Cert.FoxRefIdeal.Value.v22_at, eighth]
    have p : (∑ d : Fin 64, aX m c (ix3 b R ⟨j.val / 64 * 64 + d.val, by omega⟩) * aX m c (ix3 b k ⟨256 + (j.val / 64 * 64 + d.val), by omega⟩))
        = ((∑ d : Fin 64, X b R (j.val / 64 * 64 + d.val) * X b k (256 + (j.val / 64 * 64 + d.val)) : ℝ) : EReal) := by
      rw [coe_sum]
      exact Finset.sum_congr rfl fun d _ => (congrArg₂ (· * ·) (hX b R ⟨j.val / 64 * 64 + d.val, by omega⟩ (show j.val / 64 * 64 + d.val < 512 by omega))
        (hX b k ⟨256 + (j.val / 64 * 64 + d.val), by omega⟩ (show 256 + (j.val / 64 * 64 + d.val) < 512 by omega))).trans (EReal.coe_mul _ _).symm
    rw [p, hC b ⟨j.val / 64, by omega⟩ R (show j.val / 64 < 4 by omega), hC b ⟨j.val / 64, by omega⟩ k (show j.val / 64 < 4 by omega), ← EReal.coe_mul]
    by_cases hk : k.val ≤ R.val
    · rw [if_pos hk, if_pos (by omega), ← EReal.coe_sub, ← EReal.coe_add]
      refine congrArg Real.toEReal ?_
      rw [Finset.sum_mul]
      have : ∀ d : Fin 64, X b R (j.val / 64 * 64 + d.val) * X b k (256 + (j.val / 64 * 64 + d.val)) * (1 / 8)
          = X b R (j.val / 64 * 64 + d.val) * (1 / 8) * X b k (256 + (j.val / 64 * 64 + d.val)) := fun d => by ring
      simp only [this]
      ring
    · rw [if_neg hk, if_neg (by omega)]
      exact EReal.add_bot _
  · exact hV b k ⟨512 + j.val, by omega⟩
  · exact mean_shift _ _ _ _

omit hX hV hC in
/-- The two results are one array, of finite arguments. -/
theorem result [Cert.Pre_fox_finite.Facts] (c : Dev nD)
    (h : (Cert.Pre_fox_finite.fn (F := Ideal) (aX m c) (aC m c)).1 = (fun _ => 1#1) ∧ (Cert.Pre_fox_finite.fn (F := Ideal) (aX m c) (aC m c)).2 = fun _ => 1#1) :
    Cert.FoxRefIdeal.Read.val_main_v38 (F := Ideal) (aX m c) (aC m c) = (dats m 0 c).arrAt 4 cfg0.N := by
  obtain ⟨V, hV⟩ := named3 (aX m c)
  obtain ⟨C, hC⟩ := named3 (aC m c)
  have hC' : ∀ (b : Fin 16) (g : Fin 8) (r : Fin 2048), g.val < 4 → aC m c (ix3 b g r) = ((C b g r).toReal : EReal) :=
    fun b g r hg => by rw [← hC]; exact (real_cum _ _ h.2 b g r hg).symm
  have hX : ∀ (b : Fin 16) (r : Fin 2048) (j : Fin 768), j.val < 512 → aX m c (ix3 b r j) = ((V b r j).toReal : EReal) :=
    fun b r j hj => by rw [← hV]; exact (real_qk _ _ h.1 b r j hj).symm
  funext i
  rw [show i = ix3 (i 0) (i 1) (i 2) from (funext fun a => by match a with | ⟨0, _⟩ => rfl | ⟨1, _⟩ => rfl | ⟨2, _⟩ => rfl)]
  exact (reference_at (X := fun b r j => (V b r j).toReal) (C := fun b g r => (C b g r).toReal) hX hV hC' (i 0) (i 1) (i 2)).trans
    (kernel_at (X := fun b r j => (V b r j).toReal) (C := fun b g r => (C b g r).toReal) hX hV hC' (i 0) (i 1) (i 2)).symm

end Cert.FoxEq

end
-- ==== Proof.MlaTile.lean ====
/-
  One tile of the latent attention, 256 queries against the first `W` keys, for every width `W`: the operations the kernel
  performs, and their value at an index as a mean of the values.
-/
module

public import proofs.«01_k».proof.Proof.AttnTile

@[expose] public section

set_option maxRecDepth 16384

noncomputable section

open Idealize.ShloMosaic Idealize.ShloMosaic.TcCoe Idealize.SL.Sem Cert.Attn

namespace Cert.MlaTile

/-- The shape conditions of a tile of width `W`. -/
structure Fits (W : ℕ) : Prop where
  keys : (Cube 1 W 512).ShapeCasts (Mat W 512)
  values : (Cube 1 W 256).ShapeCasts (Mat W 256)
  key0 : (Mat W 512).Slices ![0, 0] (Mat W 128)
  key1 : (Mat W 512).Slices ![0, 128] (Mat W 128)
  key2 : (Mat W 512).Slices ![0, 256] (Mat W 128)
  key3 : (Mat W 512).Slices ![0, 384] (Mat W 128)
  value0 : (Mat W 256).Slices ![0, 0] (Mat W 64)
  value1 : (Mat W 256).Slices ![0, 64] (Mat W 64)
  value2 : (Mat W 256).Slices ![0, 128] (Mat W 64)
  value3 : (Mat W 256).Slices ![0, 192] (Mat W 64)
  reduces : (Mat 256 W).Reduces [1] (Row 256)
  columns : (Mat 256 1).Broadcasts (Mat 256 W)

section
variable {W : ℕ} (fits : Fits W) (mask : FVec Ideal (Mat 256 W) .f32 → FVec Ideal (Mat 256 W) .f32)

/-- One head: its queries and keys start at column `o`, its values at column `p`. -/
def head {o p : ℕ} (hq : (Mat 256 512).Slices ![0, o] (Mat 256 128)) (hk : (Mat W 512).Slices ![0, o] (Mat W 128))
    (hv : (Mat W 256).Slices ![0, p] (Mat W 64)) (q : FVec Ideal (Mat 256 512) .bf16) (k : FVec Ideal (Mat W 512) .bf16)
    (v : FVec Ideal (Mat W 256) .bf16) : FVec Ideal (Mat 256 64) .f32 :=
  soft W fits.reduces (by decide) fits.columns (by decide) (mask (scores W 128 hq hk q k)) (extractStridedSlice (Mat W 64) ![0, p] v hv)

/-- A tile: its four heads side by side. -/
def tile (q : FVec Ideal (Cube 1 256 512) .bf16) (k : FVec Ideal (Cube 1 W 512) .bf16) (v : FVec Ideal (Cube 1 W 256) .bf16) :
    FVec Ideal (Cube 1 256 256) .bf16 :=
  have q' : FVec Ideal (Mat 256 512) .bf16 := shapeCast (Mat 256 512) q (by decide)
  have k' : FVec Ideal (Mat W 512) .bf16 := shapeCast (Mat W 512) k fits.keys
  have v' : FVec Ideal (Mat W 256) .bf16 := shapeCast (Mat W 256) v fits.values
  shapeCast (Cube 1 256 256) (truncf .bf16 (four
    (head fits mask (o := 0) (by decide) fits.key0 fits.value0 q' k' v')
    (head fits mask (o := 128) (by decide) fits.key1 fits.value1 q' k' v')
    (head fits mask (o := 256) (by decide) fits.key2 fits.value2 q' k' v')
    (head fits mask (o := 384) (by decide) fits.key3 fits.value3 q' k' v')) (by decide)) (by decide)

variable {n : ℕ → ℕ} (hn : ∀ r : Fin 256, 0 < n r ∧ n r ≤ W)
  (hmask : ∀ (s : FVec Ideal (Mat 256 W) .f32) (r : Fin 256) (k : Fin W), mask s (ix2 r k) = if k.val < n r then s (ix2 r k) else ⊥)
  {qr kr : ℕ → ℕ → ℝ} {vr : ℕ → ℕ → EReal}

include hn hmask in
/-- One head at an index, over real queries and keys. -/
theorem head_at {o p : ℕ} (ho : o + 128 ≤ 512) (hp : p + 64 ≤ 256) (hq : (Mat 256 512).Slices ![0, o] (Mat 256 128))
    (hk : (Mat W 512).Slices ![0, o] (Mat W 128)) (hv : (Mat W 256).Slices ![0, p] (Mat W 64))
    (q : FVec Ideal (Mat 256 512) .bf16) (k : FVec Ideal (Mat W 512) .bf16) (v : FVec Ideal (Mat W 256) .bf16)
    (eq : ∀ (r : Fin 256) (c : Fin 512), q (ix2 r c) = (qr r c : EReal)) (ek : ∀ (s : Fin W) (c : Fin 512), k (ix2 s c) = (kr s c : EReal))
    (ev : ∀ (s : Fin W) (c : Fin 256), v (ix2 s c) = vr s c) (r : Fin 256) (d : Fin 64) :
    head fits mask hq hk hv q k v (ix2 r d)
      = mean (n r) (fun s => ∑ d : Fin 128, qr r (o + d.val) * kr s (o + d.val)) (fun s => vr s (p + d.val)) := by
  unfold head
  rw [soft_at]
  refine att_eq (hn r).1 (hn r).2 (fun s => ?_) fun s => ?_
  · rw [hmask]
    refine if_congr Iff.rfl ?_ rfl
    rw [scores_at W 128 hq hk ho]
    simp only [eq, ek, ← EReal.coe_mul]
    exact (coe_sum _ _).symm
  · pointwise []
    exact Eq.trans (congrArg v (mat_ext (j := ix2 s ⟨p + d.val, by omega⟩) (Nat.zero_add _) rfl)) (ev s ⟨p + d.val, by omega⟩)

include hn hmask in
/-- A tile at an index, over real queries and keys: each query's mean over the keys it sees. -/
theorem tile_at (q : FVec Ideal (Cube 1 256 512) .bf16) (k : FVec Ideal (Cube 1 W 512) .bf16) (v : FVec Ideal (Cube 1 W 256) .bf16)
    (eq : ∀ (r : Fin 256) (c : Fin 512), q (ix3 0 r c) = (qr r c : EReal)) (ek : ∀ (s : Fin W) (c : Fin 512), k (ix3 0 s c) = (kr s c : EReal))
    (ev : ∀ (s : Fin W) (c : Fin 256), v (ix3 0 s c) = vr s c) (r j : Fin 256) :
    tile fits mask q k v (ix3 0 r j)
      = mean (n r) (fun s => ∑ d : Fin 128, qr r (j.val / 64 * 128 + d.val) * kr s (j.val / 64 * 128 + d.val)) (fun s => vr s j.val) := by
  have H : ∀ {o p : ℕ} (_ : o + 128 ≤ 512) (_ : p + 64 ≤ 256) hq hk hv d, _ := fun {o p} ho hp hq hk hv d =>
    head_at fits mask hn hmask (o := o) (p := p) ho hp hq hk hv _ _ _ (fun r c => (drop_at q (by decide) r c).trans (eq r c))
      (fun s c => (drop_at k fits.keys s c).trans (ek s c)) (fun s c => (drop_at v fits.values s c).trans (ev s c)) r d
  unfold tile
  refine Eq.trans (shapeCast_addUnit_apply ![256, 256] _ (by decide) (ix3 0 r j)) ?_
  rw [show (fun a : Fin 2 => ix3 (0 : Fin 1) r j a.succ) = ix2 r j from
    funext fun c => by match c with | ⟨0, _⟩ => rfl | ⟨1, _⟩ => rfl]
  show four _ _ _ _ (ix2 r j) = _
  refine Eq.trans (four_at _ _ _ _ (fun h d => mean (n r)
      (fun s => ∑ d : Fin 128, qr r (h * 128 + d.val) * kr s (h * 128 + d.val)) (fun s => vr s (h * 64 + d.val))) r
    (fun d => H (o := 0) (p := 0) (by decide) (by decide) _ _ _ d) (fun d => H (o := 128) (p := 64) (by decide) (by decide) _ _ _ d)
    (fun d => H (o := 256) (p := 128) (by decide) (by decide) _ _ _ d) (fun d => H (o := 384) (p := 192) (by decide) (by decide) _ _ _ d) j) ?_
  have e : j.val / 64 * 64 + j.val % 64 = j.val := by omega
  show (mean _ _ fun s => vr s (j.val / 64 * 64 + j.val % 64)) = _
  rw [e]
end

end Cert.MlaTile

end
-- ==== Proof.MlaBlock.lean ====
/-
  What one grid point of the latent-attention kernel writes back: the tile of its 256 queries against the keys up to the
  end of each query's chunk, for each of the eight query tiles.
-/
module

public import proofs.«01_k».proof.Proof.Gen.MlaIdeal.Value
public import proofs.«01_k».proof.Proof.MlaTile
public import Idealize.ShloMosaic.Lib.WordCmp
public import Idealize.ShloMosaic.Lib.Pipeline.ValueKit.Tiles

@[expose] public section

set_option maxRecDepth 16384

noncomputable section

open Idealize.ShloMosaic Idealize.ShloMosaic.TcCoe Idealize.SL.Sem
open Cert.MlaIdeal Cert.MlaIdeal.Gen Cert.Attn Cert.MlaTile

namespace Cert.MlaIdeal.Value

theorem origin : (![0, 0, 0] : Fin 3 → Nat) = fun _ => 0 := funext fun a => by fin_cases a <;> rfl

/-- The conditions under which the first `W` of 2048 keys are read. -/
structure Reads (W : ℕ) : Prop extends Fits W where
  keyRows : ∀ a, (![0, 0, 0] : Fin 3 → Nat) a + (Cube 1 W 512).size a ≤ (Cube 1 2048 512).size a
  valueRows : ∀ a, (![0, 0, 0] : Fin 3 → Nat) a + (Cube 1 W 256).size a ≤ (Cube 1 2048 256).size a

/-- The tile against the first `W` keys of the blocks a grid point reads. -/
def block {W : ℕ} (hR : Reads W) (mask : FVec Ideal (Mat 256 W) .f32 → FVec Ideal (Mat 256 W) .f32)
    (x0 : Vec Ideal S1x256x512 .bf16) (x1 : Vec Ideal S1x2048x512 .bf16) (x2 : Vec Ideal S1x2048x256 .bf16) : Vec Ideal S1x256x256 .bf16 :=
  tile hR.toFits mask x0 (View.ld x1 (Rect.unit (s := S1x2048x512) ![0, 0, 0] (Cube 1 W 512).size hR.keyRows))
    (View.ld x2 (Rect.unit (s := S1x2048x256) ![0, 0, 0] (Cube 1 W 256).size hR.valueRows))

/-- The kernel's mask value, everywhere. -/
def neg : FVec Ideal (Mat 256 256) .f32 := broadcast (Mat 256 256) (Named.named κ "mask" 0xF149F2CA#32)

/-- The chunk mask on the last 256 keys of `P + 256`. -/
def ending (P W : ℕ) (h0 : (Mat 256 W).Slices ![0, 0] (Mat 256 P)) (h1 : (Mat 256 W).Slices ![0, P] (Mat 256 256))
    (hC : Shape.Concatenates [Mat 256 P, Mat 256 256] (Mat 256 W) 1) : FVec Ideal (Mat 256 W) .f32 → FVec Ideal (Mat 256 W) .f32 :=
  maskTail P W h0 h1 hC k0_pay12 neg

variable (m : (ℓ : Loc nD τ sig) → Buf (Elt Ideal) ℓ)

/-- The arguments, by name. -/
abbrev aQ (c : Dev nD) : Vec Ideal S16x2048x512 .bf16 := m ((c.tc : Thread nD τ).loc main_arg0)
abbrev aK (c : Dev nD) : Vec Ideal S16x2048x512 .bf16 := m ((c.tc : Thread nD τ).loc main_arg1)
abbrev aV (c : Dev nD) : Vec Ideal S16x2048x256 .bf16 := m ((c.tc : Thread nD τ).loc main_arg2)

/-- The end of a query's chunk, in words. -/
theorem end_word : ∀ r : Fin 256, IntOp.muli (IntOp.addi (IntOp.shrsi .vector (BitVec.ofNat 32 r.val) 6#32) 1#32) 64#32
    = BitVec.ofNat 32 ((r.val / 64 + 1) * 64) := by decide +kernel

/-- The chunk mask at an index. -/
theorem ok_at (r k : Fin 256) : k0_pay12 (ix2 r k) = 1#1 ↔ k.val < (r.val / 64 + 1) * 64 := by
  pointwise [k0_pay12]
  rw [end_word]
  exact WordCmp.cmpi_slt_ofNat_eq_one_iff (by omega) (by omega)

/-- The mask value is the least number. -/
theorem neg_at (i : (Mat 256 256).Idx) : neg i = ⊥ := rfl

/-- The scores masked beyond the chunk's end. -/
theorem diag_at (s : FVec Ideal (Mat 256 256) .f32) (r k : Fin 256) :
    select k0_pay12 s neg (ix2 r k) = if k.val < 0 + (r.val / 64 + 1) * 64 then s (ix2 r k) else ⊥ := by
  show (if k0_pay12 (ix2 r k) = 1#1 then s (ix2 r k) else neg (ix2 r k)) = _
  exact if_congr ((ok_at r k).trans (by omega)) rfl (neg_at _)

/-- The scores with their last 256 columns masked beyond the chunk's end. -/
theorem end_at (P W : ℕ) (hW : W = P + 256) (h0 h1 hC) (s : FVec Ideal (Mat 256 W) .f32) (r : Fin 256) (k : Fin W) :
    ending P W h0 h1 hC s (ix2 r k) = if k.val < P + (r.val / 64 + 1) * 64 then s (ix2 r k) else ⊥ := by
  unfold ending
  rw [maskTail_at P W hW]
  split
  · rw [if_pos (by omega)]
  · exact if_congr ((ok_at r _).trans (by show k.val - P < _ ↔ _; omega)) rfl (neg_at _)

/-- The windows' block indices at point `t`, decided over the grid. -/
theorem wfacts : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

section
variable {m} {c : Dev nD} {Q K : ℕ → ℕ → ℕ → ℝ} {V : ℕ → ℕ → ℕ → EReal}
  (hQ : ∀ (b : Fin 16) (r : Fin 2048) (j : Fin 512), aQ m c (ix3 b r j) = (Q b r j : EReal))
  (hK : ∀ (b : Fin 16) (r : Fin 2048) (j : Fin 512), aK m c (ix3 b r j) = (K b r j : EReal))
  (hV : ∀ (b : Fin 16) (r : Fin 2048) (j : Fin 256), aV m c (ix3 b r j) = V b r j) (t : Fin cfg0.N)

include hQ in
/-- The queries' block. -/
theorem blk_0 (r : Fin 256) (j : Fin 512) : iblk m c 0 t (ix3 0 r j) = (Q (t.val / 8) (256 * (t.val % 8) + r.val) j : EReal) := by
  have hN := lt_of_lt_of_eq t.isLt (show cfg0.N = 128 from N_0)
  have e := (wfacts t).1
  have i0 : win0_0.index t (0 : Fin 3) = t.val / 8 := congrFun e 0
  have i1 : win0_0.index t (1 : Fin 3) = t.val % 8 := congrFun e 1
  have i2 : win0_0.index t (2 : Fin 3) = 0 := congrFun e 2
  unfold iblk
  rw [View.read_apply]
  refine Eq.trans (congrArg (aQ m c) (funext fun a => Fin.ext ?_)) (hQ ⟨t.val / 8, by omega⟩ ⟨256 * (t.val % 8) + r.val, by omega⟩ j)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 512 + 1 * j.val = j.val; omega

include hK in
/-- The keys' block. -/
theorem blk_1 (s : Fin 2048) (j : Fin 512) : iblk m c 1 t (ix3 0 s j) = (K (t.val / 8) s j : EReal) := by
  have hN := lt_of_lt_of_eq t.isLt (show cfg0.N = 128 from N_0)
  have e := (wfacts t).2.1
  have i0 : win0_1.index t (0 : Fin 3) = t.val / 8 := congrFun e 0
  have i1 : win0_1.index t (1 : Fin 3) = 0 := congrFun e 1
  have i2 : win0_1.index t (2 : Fin 3) = 0 := congrFun e 2
  unfold iblk
  rw [View.read_apply]
  refine Eq.trans (congrArg (aK m c) (funext fun a => Fin.ext ?_)) (hK ⟨t.val / 8, by omega⟩ s j)
  match a with
  | ⟨0, _⟩ => show win0_1.index t (0 : Fin 3) * 1 + 1 * 0 = t.val / 8; omega
  | ⟨1, _⟩ => show win0_1.index t (1 : Fin 3) * 2048 + 1 * s.val = s.val; omega
  | ⟨2, _⟩ => show win0_1.index t (2 : Fin 3) * 512 + 1 * j.val = j.val; omega

include hV in
/-- The values' block. -/
theorem blk_2 (s : Fin 2048) (j : Fin 256) : iblk m c 2 t (ix3 0 s j) = V (t.val / 8) s j := by
  have hN := lt_of_lt_of_eq t.isLt (show cfg0.N = 128 from N_0)
  have e := (wfacts t).2.2.1
  have i0 : win0_2.index t (0 : Fin 3) = t.val / 8 := congrFun e 0
  have i1 : win0_2.index t (1 : Fin 3) = 0 := congrFun e 1
  have i2 : win0_2.index t (2 : Fin 3) = 0 := congrFun e 2
  unfold iblk
  rw [View.read_apply]
  refine Eq.trans (congrArg (aV m c) (funext fun a => Fin.ext ?_)) (hV ⟨t.val / 8, by omega⟩ s j)
  match a with
  | ⟨0, _⟩ => show win0_2.index t (0 : Fin 3) * 1 + 1 * 0 = t.val / 8; omega
  | ⟨1, _⟩ => show win0_2.index t (1 : Fin 3) * 2048 + 1 * s.val = s.val; omega
  | ⟨2, _⟩ => show win0_2.index t (2 : Fin 3) * 256 + 1 * j.val = j.val; omega

/-- What query row `R` of batch `b` is at column `j`: the mean of the values up to its chunk's end, by its scores. -/
def mlaRow (Q K : ℕ → ℕ → ℕ → ℝ) (V : ℕ → ℕ → ℕ → EReal) (b R j : ℕ) : EReal :=
  mean ((R / 64 + 1) * 64) (fun s => ∑ d : Fin 128, Q b R (j / 64 * 128 + d.val) * K b s (j / 64 * 128 + d.val)) fun s => V b s j

include hQ hK hV in
/-- A point whose write-back is the tile against the first `P + 256` keys writes back its rows. -/
theorem of_block {W P : ℕ} (hW : W = P + 256) (hP : P = 256 * (t.val % 8)) (hR : Reads W)
    (mask : FVec Ideal (Mat 256 W) .f32 → FVec Ideal (Mat 256 W) .f32)
    (hmask : ∀ (s : FVec Ideal (Mat 256 W) .f32) (r : Fin 256) (k : Fin W),
      mask s (ix2 r k) = if k.val < P + (r.val / 64 + 1) * 64 then s (ix2 r k) else ⊥)
    (e : (dats m 0 c).flushed 3 t = block hR mask (iblk m c 0 t) (iblk m c 1 t) (iblk m c 2 t)) (r j : Fin 256) :
    ((dats m 0 c).flushed 3 t : Vec Ideal S1x256x256 .bf16) (ix3 0 r j) = mlaRow Q K V (t.val / 8) (256 * (t.val % 8) + r.val) j.val := by
  have hl : W ≤ 2048 := by have := t.isLt; omega
  rw [e]
  unfold block
  refine (tile_at hR.toFits mask (n := fun r => P + (r / 64 + 1) * 64) (fun r => ⟨by show 0 < P + (r.val / 64 + 1) * 64; omega, by show P + (r.val / 64 + 1) * 64 ≤ W; omega⟩) hmask
    (qr := fun r j => Q (t.val / 8) (256 * (t.val % 8) + r) j) (kr := fun s j => K (t.val / 8) s j) (vr := fun s j => V (t.val / 8) s j)
    _ _ _ (blk_0 hQ t) (fun s j => ?_) (fun s j => ?_) r j).trans ?_
  · exact (View.ld_unit_apply_of _ _ _ _ _ (ix3 0 ⟨s.val, by omega⟩ j) fun a => by
      match a with | ⟨0, _⟩ => rfl | ⟨1, _⟩ => exact (Nat.zero_add _).symm | ⟨2, _⟩ => exact (Nat.zero_add _).symm).trans (blk_1 hK t ⟨s.val, by omega⟩ j)
  · exact (View.ld_unit_apply_of _ _ _ _ _ (ix3 0 ⟨s.val, by omega⟩ j) fun a => by
      match a with | ⟨0, _⟩ => rfl | ⟨1, _⟩ => exact (Nat.zero_add _).symm | ⟨2, _⟩ => exact (Nat.zero_add _).symm).trans (blk_2 hV t ⟨s.val, by omega⟩ j)
  · unfold mlaRow
    rw [show P + (r.val / 64 + 1) * 64 = ((256 * (t.val % 8) + r.val) / 64 + 1) * 64 by omega]

include hQ hK hV in
/-- What any point writes back. -/
theorem flushed_at (r j : Fin 256) :
    ((dats m 0 c).flushed 3 t : Vec Ideal S1x256x256 .bf16) (ix3 0 r j) = mlaRow Q K V (t.val / 8) (256 * (t.val % 8) + r.val) j.val := by
  obtain h | h | h | h | h | h | h | h : t.val % 8 = 0 ∨ t.val % 8 = 1 ∨ t.val % 8 = 2 ∨ t.val % 8 = 3 ∨ t.val % 8 = 4
    ∨ t.val % 8 = 5 ∨ t.val % 8 = 6 ∨ t.val % 8 = 7 := by omega
  case' inl =>
    refine of_block hQ hK hV t (W := 256) (P := 0) rfl (by omega) ⟨by constructor <;> decide, by decide, by decide⟩ _ diag_at ?_ r j
    rw [flushed3_A m c t h (by omega) (by omega) (by omega) (by omega) (by omega) (by omega) (by omega), out0_A_3,
      View.read_writes_eq_canon _ _ _ (cover0_A_3 c _ _ _ _ _ _ _ _ _ _ _ _ _ _ _ _ _ _ _ _), kernelRun0_A]
  case' inr.inl =>
    refine of_block hQ hK hV t (W := 512) (P := 256) rfl (by omega) ⟨by constructor <;> decide, by decide, by decide⟩ _ (end_at 256 512 rfl (by decide) (by decide) (by decide)) ?_ r j
    rw [flushed3_B m c t (by omega) h (by omega) (by omega) (by omega) (by omega) (by omega) (by omega), out0_B_3,
      View.read_writes_eq_canon _ _ _ (cover0_B_3 c _ _ _ _ _ _ _ _ _ _ _ _ _ _ _ _ _ _ _ _), kernelRun0_B]
  case' inr.inr.inl =>
    refine of_block hQ hK hV t (W := 768) (P := 512) rfl (by omega) ⟨by constructor <;> decide, by decide, by decide⟩ _ (end_at 512 768 rfl (by decide) (by decide) (by decide)) ?_ r j
    rw [flushed3_C m c t (by omega) (by omega) h (by omega) (by omega) (by omega) (by omega) (by omega), out0_C_3,
      View.read_writes_eq_canon _ _ _ (cover0_C_3 c _ _ _ _ _ _ _ _ _ _ _ _ _ _ _ _ _ _ _ _), kernelRun0_C]
  case' inr.inr.inr.inl =>
    refine of_block hQ hK hV t (W := 1024) (P := 768) rfl (by omega) ⟨by constructor <;> decide, by decide, by decide⟩ _ (end_at 768 1024 rfl (by decide) (by decide) (by decide)) ?_ r j
    rw [flushed3_D m c t (by omega) (by omega) (by omega) h (by omega) (by omega) (by omega) (by omega), out0_D_3,
      View.read_writes_eq_canon _ _ _ (cover0_D_3 c _ _ _ _ _ _ _ _ _ _ _ _ _ _ _ _ _ _ _ _), kernelRun0_D]
  case' inr.inr.inr.inr.inl =>
    refine of_block hQ hK hV t (W := 1280) (P := 1024) rfl (by omega) ⟨by constructor <;> decide, by decide, by decide⟩ _ (end_at 1024 1280 rfl (by decide) (by decide) (by decide)) ?_ r j
    rw [flushed3_E m c t (by omega) (by omega) (by omega) (by omega) h (by omega) (by omega) (by omega), out0_E_3,
      View.read_writes_eq_canon _ _ _ (cover0_E_3 c _ _ _ _ _ _ _ _ _ _ _ _ _ _ _ _ _ _ _ _), kernelRun0_E]
  case' inr.inr.inr.inr.inr.inl =>
    refine of_block hQ hK hV t (W := 1536) (P := 1280) rfl (by omega) ⟨by constructor <;> decide, by decide, by decide⟩ _ (end_at 1280 1536 rfl (by decide) (by decide) (by decide)) ?_ r j
    rw [flushed3_F m c t (by omega) (by omega) (by omega) (by omega) (by omega) h (by omega) (by omega), out0_F_3,
      View.read_writes_eq_canon _ _ _ (cover0_F_3 c _ _ _ _ _ _ _ _ _ _ _ _ _ _ _ _ _ _ _ _), kernelRun0_F]
  case' inr.inr.inr.inr.inr.inr.inl =>
    refine of_block hQ hK hV t (W := 1792) (P := 1536) rfl (by omega) ⟨by constructor <;> decide, by decide, by decide⟩ _ (end_at 1536 1792 rfl (by decide) (by decide) (by decide)) ?_ r j
    rw [flushed3_G m c t (by omega) (by omega) (by omega) (by omega) (by omega) (by omega) h (by omega), out0_G_3,
      View.read_writes_eq_canon _ _ _ (cover0_G_3 c _ _ _ _ _ _ _ _ _ _ _ _ _ _ _ _ _ _ _ _), kernelRun0_G]
  case' inr.inr.inr.inr.inr.inr.inr =>
    refine of_block hQ hK hV t (W := 2048) (P := 1792) rfl (by omega) ⟨by constructor <;> decide, by decide, by decide⟩ _ (end_at 1792 2048 rfl (by decide) (by decide) (by decide)) ?_ r j
    rw [flushed3_H m c t (by omega) (by omega) (by omega) (by omega) (by omega) (by omega) (by omega) h, out0_H_3,
      View.read_writes_eq_canon _ _ _ (cover0_H_3 c _ _ _ _ _ _ _ _ _ _ _ _ _ _ _ _ _ _ _ _), kernelRun0_H]
  all_goals
    dsimp only
    sl_unfold_words
    rw [View.canon_unit_zero (S := S1x256x256) origin]
    simp only [View.readAt_eq_ld, (hs0_0 t).read_unread, (hs0_1 t).read_unread, (hs0_2 t).read_unread,
      View.ld_unit_zero (S := S1x256x512) origin]
    rfl
end

end Cert.MlaIdeal.Value

end
-- ==== Proof.MlaRef.lean ====
/-
  The latent-attention reference at the ideal instance, read at an index.
-/
module

public import proofs.«01_k».proof.Proof.Gen.MlaRefIdeal.Read
public import proofs.«01_k».proof.Proof.AttnMath
public import Idealize.ShloMosaic.Lib.WordCmp

@[expose] public section

set_option maxRecDepth 16384

noncomputable section

open Idealize.ShloMosaic Idealize.ShloMosaic.TcCoe Idealize.SL.Sem
open Cert.MlaRefIdeal Cert.MlaRefIdeal.Gen Cert.MlaRefIdeal.Read Cert.Attn

namespace Cert.MlaRefIdeal.Value

variable (x0 x1 : Vec Ideal S16x2048x512 .bf16) (x2 : Vec Ideal S16x2048x256 .bf16)

/-- The scores before their mask, at an index. -/
theorem v6_at (b : Fin 16) (h : Fin 4) (r k : Fin 2048) :
    val_main_v6 (F := Ideal) x0 x1 (ix4 b h r k)
      = ∑ d : Fin 128, x0 (ix3 b r ⟨h.val * 128 + d.val, by omega⟩) * x1 (ix3 b k ⟨h.val * 128 + d.val, by omega⟩) := by
  pointwise [val_main_v6, val_main_v3, val_main_v4, val_main_v0, val_main_v1]

/-- The sign of a word, as a word. -/
def sign (x : BitVec 32) : BitVec 32 := if x = 0 then 0 else if x.msb then -1 else 1

/-- The floor of a position over 64, in words: the sign corrections never apply. -/
theorem floor_word : ∀ r : Fin 2048,
    Scalar.select (IntOp.andi (IntOp.cmpi .ne (sign (BitVec.ofNat 32 r.val)) (sign 64#32))
        (IntOp.cmpi .ne (IntOp.remsi .host (BitVec.ofNat 32 r.val) 64#32) 0#32))
      (IntOp.subi (IntOp.divsi .host (BitVec.ofNat 32 r.val) 64#32) 1#32) (IntOp.divsi .host (BitVec.ofNat 32 r.val) 64#32)
      = BitVec.ofNat 32 (r.val / 64) := by decide +kernel

/-- The chunk of a position. -/
theorem v8_at (r : Fin 2048) : val_main_v8 (F := Ideal) (ix1 r) = BitVec.ofNat 32 (r.val / 64) := by
  pointwise [val_main_v8, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v7]
  exact floor_word r

/-- The mask of one head, at an index. -/
theorem v14_at (r k : Fin 2048) : val_main_v14 (F := Ideal) (ix2 r k) = if k.val / 64 ≤ r.val / 64 then (0 : EReal) else ⊥ := by
  pointwise [val_main_v14, val_main_call1_v1, val_main_call1_v0, val_main_cst_0, val_main_cst, val_main_v13, val_main_v12, val_main_v11, val_main_v10, val_main_v9, v8_at]
  rw [least]
  unfold Scalar.select
  exact if_congr (WordCmp.cmpi_sle_ofNat_eq_one_iff (by omega) (by omega)) rfl rfl

/-- The mask, at an index. -/
theorem v17_at (b : Fin 16) (h : Fin 4) (r k : Fin 2048) :
    val_main_v17 (F := Ideal) (ix4 b h r k) = if k.val / 64 ≤ r.val / 64 then (0 : EReal) else ⊥ := by
  refine Eq.trans ?_ (v14_at r k)
  rw [val_main_v17_apply, val_main_v16_apply, val_main_v15_apply]
  exact congrArg (val_main_v14 (F := Ideal)) (mat_ext rfl rfl)

/-- The largest along the last axis, of any scores. -/
theorem max_at (y : FVec Ideal S16x4x2048x2048 .f32) (b : Fin 16) (h : Fin 4) (r : Fin 2048) :
    Host.reduce FloatOps.maximumf y (constant (F := Ideal) S_ .f32 0xFF800000#32) reducesTo_S16x4x2048x2048_S16x4x2048_d3 h_S_ (ix3 b h r)
      = top fun k => y (ix4 b h r k) := by
  pointwise [top]
  rw [least]

/-- The largest score. -/
theorem v21_at (b : Fin 16) (h : Fin 4) (r : Fin 2048) :
    val_main_v21 (F := Ideal) x0 x1 (ix3 b h r) = top fun k => val_main_v18 (F := Ideal) x0 x1 (ix4 b h r k) := by
  have e : val_main_v19 (F := Ideal) x0 x1 (ix3 b h r) = top fun k => val_main_v18 (F := Ideal) x0 x1 (ix4 b h r k) :=
    max_at (val_main_v18 (F := Ideal) x0 x1) b h r
  rw [val_main_v21_apply, e]
  pointwise [val_main_v20, val_main_cst_2]
  rw [least, max_eq_right bot_le]

/-- The exponentials. -/
theorem v25_at (b : Fin 16) (h : Fin 4) (r k : Fin 2048) :
    val_main_v25 (F := Ideal) x0 x1 (ix4 b h r k)
      = Ideal.exp (val_main_v18 (F := Ideal) x0 x1 (ix4 b h r k) - top fun k => val_main_v18 (F := Ideal) x0 x1 (ix4 b h r k)) := by
  pointwise [val_main_v25, val_main_v24, val_main_v23, val_main_v22, v21_at]

/-- The normalized weights. -/
theorem v29_at (b : Fin 16) (h : Fin 4) (r k : Fin 2048) :
    val_main_v29 (F := Ideal) x0 x1 (ix4 b h r k)
      = Ideal.div (val_main_v25 (F := Ideal) x0 x1 (ix4 b h r k)) (∑ k, val_main_v25 (F := Ideal) x0 x1 (ix4 b h r k)) := by
  pointwise [val_main_v29, val_main_v28, val_main_v27, val_main_v26, val_main_cst_3]

/-- The result at an index. -/
theorem v33_at (b : Fin 16) (r : Fin 2048) (j : Fin 256) :
    val_main_v33 (F := Ideal) x0 x1 x2 (ix3 b r j)
      = attRef (fun k => val_main_v18 (F := Ideal) x0 x1 (ix4 b ⟨j.val / 64, by omega⟩ r k)) fun k => x2 (ix3 b k j) := by
  pointwise [val_main_v33, val_main_v32, val_main_v31, val_main_v30, val_main_v5, val_main_v2, v29_at, v25_at, attRef]

end Cert.MlaRefIdeal.Value

end
-- ==== Proof.MlaEq.lean ====
/-
  The latent-attention kernel and its reference end with one array, of finite queries and keys.
-/
module

public import proofs.«01_k».proof.Proof.MlaBlock
public import proofs.«01_k».proof.Proof.MlaRef
public import proofs.«01_k».proof.Proof.Finite
public import proofs.«01_k».proof.Pre_mla_finite

@[expose] public section

set_option maxRecDepth 16384

noncomputable section

open Idealize.ShloMosaic Idealize.ShloMosaic.TcCoe Idealize.SL.Sem
open Cert.MlaIdeal Cert.MlaIdeal.Gen Cert.MlaIdeal.Value Cert.Attn

namespace Cert.MlaEq

section
variable {m : (ℓ : Loc nD τ sig) → Buf (Elt Ideal) ℓ} {c : Dev nD} {Q K : ℕ → ℕ → ℕ → ℝ} {V : ℕ → ℕ → ℕ → EReal}
  (hQ : ∀ (b : Fin 16) (r : Fin 2048) (j : Fin 512), aQ m c (ix3 b r j) = (Q b r j : EReal))
  (hK : ∀ (b : Fin 16) (r : Fin 2048) (j : Fin 512), aK m c (ix3 b r j) = (K b r j : EReal))
  (hV : ∀ (b : Fin 16) (r : Fin 2048) (j : Fin 256), aV m c (ix3 b r j) = V b r j)
include hQ hK hV

/-- The kernel's result at an index. -/
theorem kernel_at (b : Fin 16) (R : Fin 2048) (j : Fin 256) :
    ((dats m 0 c).arrAt 3 cfg0.N : Vec Ideal S16x2048x256 .bf16) (ix3 b R j) = mlaRow Q K V b R j := by
  have hN : cfg0.N = 128 := N_0
  have hb := b.isLt
  have hR := R.isLt
  let t : Fin cfg0.N := ⟨8 * b.val + R.val / 256, by omega⟩
  have htb : t.val / 8 = b.val := by show (8 * b.val + R.val / 256) / 8 = b.val; omega
  have htr : t.val % 8 = R.val / 256 := by show (8 * b.val + R.val / 256) % 8 = R.val / 256; omega
  have e := congrFun (blocks3 m c t ((by decide +kernel : ∀ t : Fin cfg0.N, (cfg0.win 3).flush t = true) t)) (ix3 0 ⟨R.val % 256, by omega⟩ j)
  rw [View.read_apply] at e
  refine Eq.trans (congrArg ((dats m 0 c).arrAt 3 cfg0.N : Vec Ideal S16x2048x256 .bf16) (funext fun a => Fin.ext ?_))
    (e.trans ((flushed_at hQ hK hV t ⟨R.val % 256, by omega⟩ j).trans ?_))
  · have w := (wfacts t).2.2.2
    have i0 : win0_3.index t (0 : Fin 3) = t.val / 8 := congrFun w 0
    have i1 : win0_3.index t (1 : Fin 3) = t.val % 8 := congrFun w 1
    have i2 : win0_3.index t (2 : Fin 3) = 0 := congrFun w 2
    match a with
    | ⟨0, _⟩ => show b.val = win0_3.index t (0 : Fin 3) * 1 + 1 * 0; omega
    | ⟨1, _⟩ => show R.val = win0_3.index t (1 : Fin 3) * 256 + 1 * (R.val % 256); omega
    | ⟨2, _⟩ => show j.val = win0_3.index t (2 : Fin 3) * 256 + 1 * j.val; omega
  · rw [htb, htr]
    show mlaRow Q K V b.val (256 * (R.val / 256) + R.val % 256) j.val = _
    rw [Nat.div_add_mod]

/-- The reference's result at an index. -/
theorem reference_at (b : Fin 16) (R : Fin 2048) (j : Fin 256) :
    Cert.MlaRefIdeal.Read.val_main_v33 (F := Ideal) (aQ m c) (aK m c) (aV m c) (ix3 b R j) = mlaRow Q K V b R j := by
  have hj := j.isLt
  refine (Cert.MlaRefIdeal.Value.v33_at _ _ _ b R j).trans
    (attRef_eq (n := (R.val / 64 + 1) * 64)
      (l := fun s => ∑ d : Fin 128, Q b R (j.val / 64 * 128 + d.val) * K b s (j.val / 64 * 128 + d.val)) (x := fun s => V b s j)
      (by omega) (by omega) (fun k => ?_) fun k => hV b k j)
  have e : Cert.MlaRefIdeal.Read.val_main_v18 (F := Ideal) (aQ m c) (aK m c) (ix4 b ⟨j.val / 64, by omega⟩ R k)
      = Cert.MlaRefIdeal.Read.val_main_v6 (F := Ideal) (aQ m c) (aK m c) (ix4 b ⟨j.val / 64, by omega⟩ R k)
        + Cert.MlaRefIdeal.Read.val_main_v17 (F := Ideal) (ix4 b ⟨j.val / 64, by omega⟩ R k) := rfl
  rw [e, Cert.MlaRefIdeal.Value.v6_at, Cert.MlaRefIdeal.Value.v17_at]
  simp only [hQ, hK, ← EReal.coe_mul]
  rw [← coe_sum]
  by_cases hk : k.val / 64 ≤ R.val / 64
  · rw [if_pos hk, if_pos (by omega), add_zero]
  · rw [if_neg hk, if_neg (by omega)]
    exact EReal.add_bot _
end

/-- The two results are one array, of finite queries and keys. -/
theorem result [Cert.Pre_mla_finite.Facts] (m : (ℓ : Loc nD τ sig) → Buf (Elt Ideal) ℓ) (c : Dev nD)
    (h : (Cert.Pre_mla_finite.fn (F := Ideal) (aQ m c) (aK m c) (aV m c)).1 = (fun _ => 1#1)
      ∧ (Cert.Pre_mla_finite.fn (F := Ideal) (aQ m c) (aK m c) (aV m c)).2 = fun _ => 1#1) :
    Cert.MlaRefIdeal.Read.val_main_v33 (F := Ideal) (aQ m c) (aK m c) (aV m c) = (dats m 0 c).arrAt 3 cfg0.N := by
  have top : Ideal.ofBits .bf16 0x7F80#16 = ⊤ := by simp [Ideal.ofBits, Ideal.ieee]
  obtain ⟨Q, hQ⟩ := named3 (aQ m c)
  obtain ⟨K, hK⟩ := named3 (aK m c)
  obtain ⟨V, hV⟩ := named3 (aV m c)
  have hQ' : ∀ (b : Fin 16) (r : Fin 2048) (j : Fin 512), aQ m c (ix3 b r j) = ((Q b r j).toReal : EReal) :=
    fun b r j => by rw [← hQ]; exact (real_of_cmp _ _ top (congrFun h.1 (ix3 b r j))).symm
  have hK' : ∀ (b : Fin 16) (r : Fin 2048) (j : Fin 512), aK m c (ix3 b r j) = ((K b r j).toReal : EReal) :=
    fun b r j => by rw [← hK]; exact (real_of_cmp _ _ top (congrFun h.2 (ix3 b r j))).symm
  funext i
  rw [show i = ix3 (i 0) (i 1) (i 2) from (funext fun a => by match a with | ⟨0, _⟩ => rfl | ⟨1, _⟩ => rfl | ⟨2, _⟩ => rfl)]
  exact (reference_at (Q := fun b r j => (Q b r j).toReal) (K := fun b r j => (K b r j).toReal) hQ' hK' hV (i 0) (i 1) (i 2)).trans
    (kernel_at (Q := fun b r j => (Q b r j).toReal) (K := fun b r j => (K b r j).toReal) hQ' hK' hV (i 0) (i 1) (i 2)).symm

end Cert.MlaEq

end
-- ==== Proof.InprojSpec.lean ====
/-
  The input projection of one token: the products of its row with the stacked weights, the two normed latents, and the
  rotated queries and keys and the values of the latent attention.
-/
module

public import proofs.«01_k».proof.Proof.AttnMath

@[expose] public section

set_option maxRecDepth 16384

noncomputable section

open Idealize.ShloMosaic Idealize.ShloMosaic.TcCoe Idealize.SL.Sem
open Cert.Attn

namespace Cert.InprojSpec

/-- A row times a column of a matrix. -/
def lin {K N : ℕ} (X : Fin K → EReal) (w : (Mat K N).Idx → EReal) (j : Fin N) : EReal := ∑ k, X k * w (ix2 k j)

/-- A row divided by the root of its squares' sum over `d`, times a gain. -/
def normed {n : ℕ} (d : EReal) (u : Fin n → EReal) (g : (Mat 1 n).Idx → EReal) (j : Fin n) : EReal :=
  u j * Ideal.rsqrt (Ideal.div (∑ k, u k * u k) d + Ideal.ofBits .f32 0x358637BD#32) * g (ix2 0 j)

variable (X : Fin 1024 → EReal) (W : (Mat 1024 2816).Idx → EReal)

/-- The latent of the queries. -/
def cq (j : Fin 256) : EReal := lin X W ⟨2304 + j.val, by omega⟩
/-- The latent of the keys and values. -/
def ckv (j : Fin 128) : EReal := lin X W ⟨2560 + j.val, by omega⟩
/-- The narrow projections side by side. -/
def small (j : Fin 128) : EReal := lin X W ⟨2688 + j.val, by omega⟩

/-- The normed latent of the queries: 192 of its columns are in use. -/
def nq (g : (Mat 1 256).Idx → EReal) : Fin 256 → EReal := normed (Ideal.ofBits .f32 0x43400000#32) (cq X W) g
/-- The normed latent of the keys and values. -/
def nkv (g : (Mat 1 128).Idx → EReal) : Fin 128 → EReal := normed (Ideal.ofBits .f32 0x43000000#32) (ckv X W) g

/-- The rotated and scaled queries. -/
def q (g : (Mat 1 256).Idx → EReal) (a b : (Mat 256 512).Idx → EReal) (C S : Fin 512 → EReal) (j : Fin 512) : EReal :=
  (lin (nq X W g) a j * C j + lin (nq X W g) b j * S j) * Ideal.ofBits .f32 0x3DD105EC#32

/-- The rotated keys. -/
def k (g : (Mat 1 128).Idx → EReal) (w a b : (Mat 128 512).Idx → EReal) (C S : Fin 512 → EReal) (j : Fin 512) : EReal :=
  (lin (nkv X W g) w j + lin (small X W) a j) * C j + lin (small X W) b j * S j

/-- The values. -/
def v (g : (Mat 1 128).Idx → EReal) (w : (Mat 128 256).Idx → EReal) (j : Fin 256) : EReal := lin (nkv X W g) w j

/-- The transposed projections. -/
def t (w : (Mat 272 1024).Idx → EReal) (i : Fin 272) : EReal := ∑ k, X k * w (ix2 i k)

/-- Row `r` of a matrix. -/
def row {M N : ℕ} (x : (Mat M N).Idx → EReal) (r : Fin M) : Fin N → EReal := fun j => x (ix2 r j)

end Cert.InprojSpec

end
-- ==== Proof.InprojBlock.lean ====
/-
  What one grid point of the input projection writes back, read at an index: each of its ten values at a row of the
  block is the projection of that row.
-/
module

public import proofs.«01_k».proof.Proof.Gen.InprojIdeal.Value
public import proofs.«01_k».proof.Proof.InprojSpec
public import Idealize.ShloMosaic.Lib.Pipeline.ValueKit.Tiles

@[expose] public section

set_option maxRecDepth 16384

noncomputable section

open Idealize.ShloMosaic Idealize.ShloMosaic.TcCoe Idealize.SL.Sem
open Cert.InprojIdeal Cert.InprojIdeal.Gen Cert.Attn Cert.InprojSpec

namespace Cert.InprojBlock

variable (x : Vec Ideal S512x1024 .f32) (r : Fin 512)

/-- A slab of the stacked weights' columns. -/
def cols (o n : ℕ) (h : o + n ≤ 2816) (w : Vec Ideal S1024x2816 .bf16) : (Mat 1024 n).Idx → EReal :=
  fun i => w (ix2 (i 0) ⟨o + (i 1).val, by have := (i 1).isLt; simp only [Matrix.cons_val_one, Matrix.cons_val_fin_one] at this; omega⟩)

/-- A row times a slab's column is the row times the stacked weights' column. -/
theorem lin_cols (o n : ℕ) (h : o + n ≤ 2816) (w : Vec Ideal S1024x2816 .bf16) (X : Fin 1024 → EReal) (j : Fin n) :
    lin X (cols o n h w) j = lin X w ⟨o + j.val, by omega⟩ := rfl

/-- The first 768 columns' products. -/
theorem pay4_at (w : Vec Ideal S1024x768 .bf16) (j : Fin 768) : k0_pay4 x w (ix2 r j) = lin (row x r) w j := by
  pointwise [k0_pay4, k0_pay3, lin, row]

/-- The second slab's products. -/
theorem pay5_at (w : Vec Ideal S1024x512 .bf16) (j : Fin 512) : k0_pay5 x w (ix2 r j) = lin (row x r) w j := by
  pointwise [k0_pay5, k0_pay3, lin, row]

/-- The third slab's products. -/
theorem pay6_at (w : Vec Ideal S1024x768 .bf16) (j : Fin 768) : k0_pay6 x w (ix2 r j) = lin (row x r) w j := by
  pointwise [k0_pay6, k0_pay3, lin, row]

/-- The fourth slab's products. -/
theorem pay7_at (w : Vec Ideal S1024x256 .bf16) (j : Fin 256) : k0_pay7 x w (ix2 r j) = lin (row x r) w j := by
  pointwise [k0_pay7, k0_pay3, lin, row]

/-- The last slab's products. -/
theorem pay8_at (w : Vec Ideal S1024x512 .bf16) (j : Fin 512) : k0_pay8 x w (ix2 r j) = lin (row x r) w j := by
  pointwise [k0_pay8, k0_pay3, lin, row]

section slab
variable (w : Vec Ideal S1024x2816 .bf16) (w' : Vec Ideal S1024x512 .bf16) (hw : w' = cols 2304 512 (by omega) w)
include hw

/-- The last slab's products are the projections from column 2304. -/
theorem slab_at (j : Fin 512) : k0_pay8 x w' (ix2 r j) = lin (row x r) w ⟨2304 + j.val, by omega⟩ := by
  rw [pay8_at, hw, lin_cols]

/-- The indexer's keys. -/
theorem pay9_at (j : Fin 32) : k0_pay9 x w' (ix2 r j) = small (row x r) w ⟨32 + j.val, by omega⟩ := by
  pointwise [k0_pay9, slab_at x r w w' hw, small]
  exact congrArg (lin (row x r) w) (Fin.ext (by simp only []; omega))

/-- The query latent. -/
theorem pay10_at (j : Fin 256) : k0_pay10 x w' (ix2 r j) = cq (row x r) w j := by
  pointwise [k0_pay10, slab_at x r w w' hw, cq]

/-- The key and value latent. -/
theorem pay11_at (j : Fin 128) : k0_pay11 x w' (ix2 r j) = ckv (row x r) w j := by
  pointwise [k0_pay11, slab_at x r w w' hw, ckv]
  exact congrArg (lin (row x r) w) (Fin.ext (by simp only []; omega))

/-- The narrow projections. -/
theorem pay12_at (j : Fin 128) : k0_pay12 x w' (ix2 r j) = small (row x r) w j := by
  pointwise [k0_pay12, slab_at x r w w' hw, small]
  exact congrArg (lin (row x r) w) (Fin.ext (by simp only []; omega))

/-- The squares of the query latent. -/
theorem pay13_at (j : Fin 256) : k0_pay13 x w' (ix2 r j) = cq (row x r) w j * cq (row x r) w j := by
  pointwise [k0_pay13, pay10_at x r w w' hw]
end slab

/-- The normed key and value latent. -/
theorem pay14_at (u : FVec Ideal S512x128 .f32) (g : Vec Ideal S1x128 .f32) (j : Fin 128) :
    k0_pay14 u g (ix2 r j) = normed (Ideal.ofBits .f32 0x43000000#32) (row u r) g j := by
  pointwise [k0_pay14, normed, row]

/-- The rotated queries. -/
theorem pay15_at (u u2 : FVec Ideal S512x256 .f32) (g : Vec Ideal S1x256 .f32) (C S : Vec Ideal S512x512 .f32)
    (a b : Vec Ideal S256x512 .bf16) (f : Fin 256 → EReal) (hu : ∀ j, u (ix2 r j) = f j) (hu2 : ∀ j, u2 (ix2 r j) = f j * f j)
    (j : Fin 512) :
    k0_pay15 u u2 g C S a b (ix2 r j)
      = (lin (normed (Ideal.ofBits .f32 0x43400000#32) f g) a j * row C r j
          + lin (normed (Ideal.ofBits .f32 0x43400000#32) f g) b j * row S r j) * Ideal.ofBits .f32 0x3DD105EC#32 := by
  pointwise [k0_pay15, normed, lin, row, hu, hu2]

/-- A finite number less itself. -/
theorem sub_self' {y : EReal} (h : y = (y.toReal : EReal)) : y - y = 0 := by
  rw [h, ← EReal.coe_sub, sub_self, EReal.coe_zero]

/-- The rotated keys, of finite narrow projections: their low half is nothing. -/
theorem pay18_at (u : FVec Ideal S512x128 .f32) (n : FVec Ideal S512x128 .bf16) (C S : Vec Ideal S512x512 .f32)
    (a b w : Vec Ideal S128x512 .bf16) (hu : ∀ j : Fin 128, u (ix2 r j) = ((u (ix2 r j)).toReal : EReal)) (j : Fin 512) :
    k0_pay18 u n C S (k0_pay16 u) a a b b w (ix2 r j)
      = (lin (row n r) w j + lin (row u r) a j) * row C r j + lin (row u r) b j * row S r j := by
  have e : ∀ d, u (ix2 r d) - u (ix2 r d) = 0 := fun d => sub_self' (hu d)
  pointwise [k0_pay18, k0_pay16, lin, row]
  simp only [e, zero_mul, Finset.sum_const_zero, add_zero]

/-- The values. -/
theorem pay19_at (n : FVec Ideal S512x128 .bf16) (w : Vec Ideal S128x256 .bf16) (j : Fin 256) :
    k0_pay19 n w (ix2 r j) = lin (row n r) w j := by
  pointwise [k0_pay19, lin, row]

/-- The transposed projections. -/
theorem pay20_at (w : Vec Ideal S272x1024 .bf16) (i : Fin 272) : k0_pay20 (k0_pay3 x) w (ix2 i r) = t (row x r) w i := by
  pointwise [k0_pay20, k0_pay3, t, row]
  exact Finset.sum_congr rfl fun d _ => mul_comm _ _

/-- The transposed values. -/
theorem pay1_at (w : Vec Ideal S272x1024 .bf16) (i : Fin 256) :
    k0_pay1 (k0_pay21 (k0_pay3 x) w) (ix3 0 i r) = t (row x r) w ⟨i.val, by omega⟩ := by
  pointwise [k0_pay1, k0_pay21, pay20_at x]

/-- The transposed narrow projections. -/
theorem pay2_at (w : Vec Ideal S272x1024 .bf16) (i : Fin 16) :
    k0_pay2 (k0_pay20 (k0_pay3 x) w) (ix3 0 i r) = t (row x r) w ⟨256 + i.val, by omega⟩ := by
  pointwise [k0_pay2, pay20_at x]

/-- A load of a slab of the stacked weights' columns. -/
theorem ld_cols (o n : ℕ) (h : o + n ≤ 2816) (w : Vec Ideal S1024x2816 .bf16)
    (inb : ∀ a, (![0, o] : Fin 2 → Nat) a + (Mat 1024 n).size a ≤ S1024x2816.size a) :
    (View.ld w (Rect.unit (s := S1024x2816) ![0, o] (Mat 1024 n).size inb) : (Mat 1024 n).Idx → EReal) = cols o n h w :=
  funext fun i => View.ld_unit_apply_of _ _ _ _ i _ fun a => by
    match a with
    | ⟨0, _⟩ => exact (Nat.zero_add _).symm
    | ⟨1, _⟩ => rfl

theorem origin2 : (![0, 0] : Fin 2 → Nat) = fun _ => 0 := funext fun a => by fin_cases a <;> rfl
theorem origin3 : (![0, 0, 0] : Fin 3 → Nat) = fun _ => 0 := funext fun a => by fin_cases a <;> rfl

section outs
variable (x0 : Vec Ideal S512x1024 .f32) (x1 : Vec Ideal S1024x2816 .bf16) (x2 : Vec Ideal S272x1024 .bf16)
  (x3 : Vec Ideal S1x256 .f32) (x4 : Vec Ideal S1x128 .f32) (x5 x6 : Vec Ideal S256x512 .bf16) (x7 : Vec Ideal S128x512 .bf16)
  (x8 : Vec Ideal S128x256 .bf16) (x9 x10 : Vec Ideal S128x512 .bf16) (x11 x12 : Vec Ideal S512x512 .f32)

/-- The first block written. -/
theorem out13_at (j : Fin 768) : out0_13 x0 x1 x2 x3 x4 x5 x6 x7 x8 x9 x10 x11 x12 (ix2 r j) = lin (row x0 r) x1 ⟨j.val, by omega⟩ := by
  unfold out0_13
  rw [View.canon_unit_zero (S := S512x768) origin2, View.ld_unit_zero (S := S512x1024) origin2, ld_cols 0 768 (by omega), pay4_at, lin_cols]
  exact congrArg (lin _ _) (Fin.ext (Nat.zero_add _))

/-- The second block written. -/
theorem out14_at (j : Fin 512) : out0_14 x0 x1 x2 x3 x4 x5 x6 x7 x8 x9 x10 x11 x12 (ix2 r j) = lin (row x0 r) x1 ⟨768 + j.val, by omega⟩ := by
  unfold out0_14
  rw [View.canon_unit_zero (S := S512x512) origin2, View.ld_unit_zero (S := S512x1024) origin2, ld_cols 768 512 (by omega), pay5_at, lin_cols]

/-- The third block written. -/
theorem out15_at (j : Fin 768) : out0_15 x0 x1 x2 x3 x4 x5 x6 x7 x8 x9 x10 x11 x12 (ix2 r j) = lin (row x0 r) x1 ⟨1280 + j.val, by omega⟩ := by
  unfold out0_15
  rw [View.canon_unit_zero (S := S512x768) origin2, View.ld_unit_zero (S := S512x1024) origin2, ld_cols 1280 768 (by omega), pay6_at, lin_cols]

/-- The fourth block written. -/
theorem out16_at (j : Fin 256) : out0_16 x0 x1 x2 x3 x4 x5 x6 x7 x8 x9 x10 x11 x12 (ix2 r j) = lin (row x0 r) x1 ⟨2048 + j.val, by omega⟩ := by
  unfold out0_16
  rw [View.canon_unit_zero (S := S512x256) origin2, View.ld_unit_zero (S := S512x1024) origin2, ld_cols 2048 256 (by omega), pay7_at, lin_cols]

/-- The indexer's keys' block. -/
theorem out17_at (j : Fin 32) : out0_17 x0 x1 x2 x3 x4 x5 x6 x7 x8 x9 x10 x11 x12 (ix2 r j) = small (row x0 r) x1 ⟨32 + j.val, by omega⟩ := by
  unfold out0_17
  rw [View.canon_unit_zero (S := S512x32) origin2, View.ld_unit_zero (S := S512x1024) origin2, ld_cols 2304 512 (by omega), pay9_at _ _ _ _ rfl]

/-- The queries' block. -/
theorem out18_at (j : Fin 512) : out0_18 x0 x1 x2 x3 x4 x5 x6 x7 x8 x9 x10 x11 x12 (ix2 r j)
    = q (row x0 r) x1 x3 x5 x6 (row x11 r) (row x12 r) j := by
  unfold out0_18
  rw [View.canon_unit_zero (S := S512x512) origin2, View.ld_unit_zero (S := S512x1024) origin2, ld_cols 2304 512 (by omega),
    View.ld_unit_zero (S := S1x256) origin2, View.ld_unit_zero (S := S512x512) origin2, View.ld_unit_zero (S := S512x512) origin2,
    View.ld_unit_zero (S := S256x512) origin2, View.ld_unit_zero (S := S256x512) origin2]
  exact pay15_at r _ _ _ _ _ _ _ (cq (row x0 r) x1) (fun j => pay10_at _ _ _ _ rfl j) (fun j => pay13_at _ _ _ _ rfl j) j

/-- The keys' block, of finite narrow projections. -/
theorem out19_at (hs : ∀ j : Fin 128, small (row x0 r) x1 j = ((small (row x0 r) x1 j).toReal : EReal)) (j : Fin 512) :
    out0_19 x0 x1 x2 x3 x4 x5 x6 x7 x8 x9 x10 x11 x12 (ix2 r j) = k (row x0 r) x1 x4 x7 x9 x10 (row x11 r) (row x12 r) j := by
  unfold out0_19 k0_pay24 k0_pay23
  rw [View.canon_unit_zero (S := S512x512) origin2, View.ld_unit_zero (S := S512x1024) origin2, ld_cols 2304 512 (by omega),
    View.ld_unit_zero (S := S1x128) origin2, View.ld_unit_zero (S := S512x512) origin2, View.ld_unit_zero (S := S512x512) origin2,
    View.ld_unit_zero (S := S128x512) origin2, View.ld_unit_zero (S := S128x512) origin2, View.ld_unit_zero (S := S128x512) origin2]
  have e12 : row (k0_pay12 x0 (cols 2304 512 (by omega) x1)) r = small (row x0 r) x1 := funext fun j => pay12_at _ _ _ _ rfl j
  have e11 : row (k0_pay11 x0 (cols 2304 512 (by omega) x1)) r = ckv (row x0 r) x1 := funext fun j => pay11_at _ _ _ _ rfl j
  have e14 : row (k0_pay14 (k0_pay11 x0 (cols 2304 512 (by omega) x1)) x4) r = nkv (row x0 r) x1 x4 :=
    funext fun j => (pay14_at r _ _ j).trans (congrArg (fun f => normed _ f x4 j) e11)
  refine (pay18_at r _ _ _ _ _ _ _ (fun j => ?_) j).trans ?_
  · rw [pay12_at _ _ _ _ rfl]
    exact hs j
  · rw [e12, e14]
    rfl

/-- The values' block. -/
theorem out20_at (j : Fin 256) : out0_20 x0 x1 x2 x3 x4 x5 x6 x7 x8 x9 x10 x11 x12 (ix2 r j) = v (row x0 r) x1 x4 x8 j := by
  unfold out0_20 k0_pay24
  rw [View.canon_unit_zero (S := S512x256) origin2, View.ld_unit_zero (S := S512x1024) origin2, ld_cols 2304 512 (by omega),
    View.ld_unit_zero (S := S1x128) origin2, View.ld_unit_zero (S := S128x256) origin2, pay19_at]
  have e11 : row (k0_pay11 x0 (cols 2304 512 (by omega) x1)) r = ckv (row x0 r) x1 := funext fun j => pay11_at _ _ _ _ rfl j
  have e14 : row (k0_pay14 (k0_pay11 x0 (cols 2304 512 (by omega) x1)) x4) r = nkv (row x0 r) x1 x4 :=
    funext fun j => (pay14_at r _ _ j).trans (congrArg (fun f => normed _ f x4 j) e11)
  rw [e14]
  rfl

/-- The transposed values' block. -/
theorem out21_at (i : Fin 256) : out0_21 x0 x1 x2 x3 x4 x5 x6 x7 x8 x9 x10 x11 x12 (ix3 0 i r) = t (row x0 r) x2 ⟨i.val, by omega⟩ := by
  unfold out0_21 k0_pay22
  rw [View.canon_unit_zero (S := S1x256x512) origin3, View.ld_unit_zero (S := S512x1024) origin2, View.ld_unit_zero (S := S272x1024) origin2, pay1_at]

/-- The transposed narrow projections' block. -/
theorem out22_at (i : Fin 16) : out0_22 x0 x1 x2 x3 x4 x5 x6 x7 x8 x9 x10 x11 x12 (ix3 0 i r) = t (row x0 r) x2 ⟨256 + i.val, by omega⟩ := by
  unfold out0_22 k0_pay22
  rw [View.canon_unit_zero (S := S1x16x512) origin3, View.ld_unit_zero (S := S512x1024) origin2, View.ld_unit_zero (S := S272x1024) origin2, pay2_at]
end outs

end Cert.InprojBlock

end
-- ==== Proof.InprojRef.lean ====
/-
  The reference of the input projection at the ideal instance, read at an index.
-/
module

public import proofs.«01_k».proof.Proof.Gen.InprojRefIdeal.Read
public import proofs.«01_k».proof.Proof.InprojSpec

@[expose] public section

set_option maxRecDepth 16384

noncomputable section

open Idealize.ShloMosaic Idealize.ShloMosaic.TcCoe Idealize.SL.Sem
open Cert.InprojRefIdeal Cert.InprojRefIdeal.Gen Cert.InprojRefIdeal.Read Cert.Attn Cert.InprojSpec

namespace Cert.InprojRefIdeal.Value

variable (x0 : Vec Ideal S32768x1024 .f32) (x1 : Vec Ideal S1024x2816 .bf16) (x2 : Vec Ideal S272x1024 .bf16)
  (x3 : Vec Ideal S1x256 .f32) (x4 : Vec Ideal S1x128 .f32) (x5 x6 : Vec Ideal S256x512 .bf16) (x7 : Vec Ideal S128x512 .bf16)
  (x8 : Vec Ideal S128x256 .bf16) (x9 x10 : Vec Ideal S128x512 .bf16) (x11 x12 : Vec Ideal S2048x512 .f32) (r : Fin 32768)

/-- The products with the stacked weights. -/
theorem v8_at (j : Fin 2816) : val_main_v8 (F := Ideal) x0 x1 (ix2 r j) = lin (row x0 r) x1 j := by
  pointwise [val_main_v8, val_main_v0, lin, row]

/-- The query latent. -/
theorem v13_at (j : Fin 256) : val_main_v13 (F := Ideal) x0 x1 (ix2 r j) = cq (row x0 r) x1 j := by
  pointwise [val_main_v13, v8_at, cq]

/-- The key and value latent. -/
theorem v14_at (j : Fin 128) : val_main_v14 (F := Ideal) x0 x1 (ix2 r j) = ckv (row x0 r) x1 j := by
  pointwise [val_main_v14, v8_at, ckv]

/-- The narrow projections. -/
theorem v15_at (j : Fin 128) : val_main_v15 (F := Ideal) x0 x1 (ix2 r j) = small (row x0 r) x1 j := by
  pointwise [val_main_v15, v8_at, small]

/-- The normed query latent. -/
theorem v28_at (j : Fin 256) : val_main_v28 (F := Ideal) x0 x1 x3 (ix2 r j) = nq (row x0 r) x1 x3 j := by
  pointwise [val_main_v28, val_main_v27, val_main_v26, val_main_v25, val_main_v24, val_main_v23, val_main_v22, val_main_cst_1, val_main_v21, val_main_v20, val_main_cst_0, val_main_v19, val_main_v18, val_main_cst, val_main_v17, v13_at, nq, normed]

/-- The normed key and value latent. -/
theorem v40_at (j : Fin 128) : val_main_v40 (F := Ideal) x0 x1 x4 (ix2 r j) = nkv (row x0 r) x1 x4 j := by
  pointwise [val_main_v40, val_main_v39, val_main_v38, val_main_v37, val_main_v36, val_main_v35, val_main_v34, val_main_cst_4, val_main_v33, val_main_v32, val_main_cst_3, val_main_v31, val_main_v30, val_main_cst_2, val_main_v29, v14_at, nkv, normed]

/-- The cosines, repeated for each batch. -/
theorem v43_at (j : Fin 512) : val_main_v43 (F := Ideal) x11 (ix2 r j) = x11 (ix2 ⟨r.val % 2048, by omega⟩ j) := by
  pointwise [val_main_v43, val_main_v42, val_main_v41]

/-- The sines, repeated for each batch. -/
theorem v46_at (j : Fin 512) : val_main_v46 (F := Ideal) x12 (ix2 r j) = x12 (ix2 ⟨r.val % 2048, by omega⟩ j) := by
  pointwise [val_main_v46, val_main_v45, val_main_v44]

/-- The first result. -/
theorem v66_at (j : Fin 768) : val_main_v66 (F := Ideal) x0 x1 (ix2 r j) = lin (row x0 r) x1 ⟨j.val, by omega⟩ := by
  pointwise [val_main_v66, val_main_v9, v8_at]

/-- The second result. -/
theorem v67_at (j : Fin 512) : val_main_v67 (F := Ideal) x0 x1 (ix2 r j) = lin (row x0 r) x1 ⟨768 + j.val, by omega⟩ := by
  pointwise [val_main_v67, val_main_v10, v8_at]

/-- The third result. -/
theorem v68_at (j : Fin 768) : val_main_v68 (F := Ideal) x0 x1 (ix2 r j) = lin (row x0 r) x1 ⟨1280 + j.val, by omega⟩ := by
  pointwise [val_main_v68, val_main_v11, v8_at]

/-- The fourth result. -/
theorem v69_at (j : Fin 256) : val_main_v69 (F := Ideal) x0 x1 (ix2 r j) = lin (row x0 r) x1 ⟨2048 + j.val, by omega⟩ := by
  pointwise [val_main_v69, val_main_v12, v8_at]

/-- The fifth result. -/
theorem v70_at (j : Fin 32) : val_main_v70 (F := Ideal) x0 x1 (ix2 r j) = small (row x0 r) x1 ⟨32 + j.val, by omega⟩ := by
  pointwise [val_main_v70, val_main_v16, v15_at]

/-- The sixth result: the queries. -/
theorem v71_at (j : Fin 512) : val_main_v71 (F := Ideal) x0 x1 x3 x5 x6 x11 x12 (ix2 r j)
    = q (row x0 r) x1 x3 x5 x6 (row x11 ⟨r.val % 2048, by omega⟩) (row x12 ⟨r.val % 2048, by omega⟩) j := by
  pointwise [val_main_v71, val_main_v53, val_main_v52, val_main_cst_5, val_main_v51, val_main_v50, val_main_v49, val_main_v48, val_main_v47, val_main_v2, val_main_v3, v28_at, v43_at, v46_at, q, lin, row]

/-- The seventh result: the keys. -/
theorem v72_at (j : Fin 512) : val_main_v72 (F := Ideal) x0 x1 x4 x7 x9 x10 x11 x12 (ix2 r j)
    = k (row x0 r) x1 x4 x7 x9 x10 (row x11 ⟨r.val % 2048, by omega⟩) (row x12 ⟨r.val % 2048, by omega⟩) j := by
  pointwise [val_main_v72, val_main_v60, val_main_v59, val_main_v58, val_main_v57, val_main_v56, val_main_v55, val_main_v54, val_main_v4, val_main_v6, val_main_v7, v15_at, v40_at, v43_at, v46_at, k, lin, row]

/-- The eighth result: the values. -/
theorem v73_at (j : Fin 256) : val_main_v73 (F := Ideal) x0 x1 x4 x8 (ix2 r j) = v (row x0 r) x1 x4 x8 j := by
  pointwise [val_main_v73, val_main_v64, val_main_v5, v40_at, v, lin]

/-- The transposed projections. -/
theorem v63_at (b : Fin 16) (i : Fin 272) (s : Fin 2048) :
    val_main_v63 (F := Ideal) x0 x2 (ix3 b i s) = t (row x0 ⟨b.val * 2048 + s.val, by omega⟩) x2 i := by
  pointwise [val_main_v63, val_main_v62, val_main_v61, val_main_v1, t, row]

/-- The ninth result: the transposed values. -/
theorem v74_at (b : Fin 16) (i : Fin 256) (s : Fin 2048) :
    val_main_v74 (F := Ideal) x0 x2 (ix3 b i s) = t (row x0 ⟨b.val * 2048 + s.val, by omega⟩) x2 ⟨i.val, by omega⟩ := by
  pointwise [val_main_v74, val_main_v65, v63_at]

/-- The tenth result: the transposed narrow projections. -/
theorem v75_at (b : Fin 16) (i : Fin 16) (s : Fin 2048) :
    val_main_v75 (F := Ideal) x0 x2 (ix3 b i s) = t (row x0 ⟨b.val * 2048 + s.val, by omega⟩) x2 ⟨256 + i.val, by omega⟩ := by
  pointwise [val_main_v75, v63_at]

end Cert.InprojRefIdeal.Value

end
-- ==== Proof.InprojEq.lean ====
/-
  The input-projection kernel and its reference end with the same ten arrays, of finite tokens and finite narrow weights.
-/
module

public import proofs.«01_k».proof.Proof.InprojBlock
public import proofs.«01_k».proof.Proof.InprojRef
public import proofs.«01_k».proof.Proof.AttnTile
public import proofs.«01_k».proof.Proof.Finite
public import proofs.«01_k».proof.Pre_inproj_finite

@[expose] public section

set_option maxRecDepth 16384

noncomputable section

open Idealize.ShloMosaic Idealize.ShloMosaic.TcCoe Idealize.SL.Sem
open Cert.InprojIdeal Cert.InprojIdeal.Gen Cert.InprojIdeal.Value Cert.Attn Cert.InprojSpec Cert.InprojBlock

namespace Cert.InprojEq

variable (m : (ℓ : Loc nD τ sig) → Buf (Elt Ideal) ℓ) (c : Dev nD)

/-- The arguments, by name. -/
abbrev a0 : Vec Ideal S32768x1024 .f32 := m ((c.tc : Thread nD τ).loc main_arg0)
abbrev a1 : Vec Ideal S1024x2816 .bf16 := m ((c.tc : Thread nD τ).loc main_arg1)
abbrev a2 : Vec Ideal S272x1024 .bf16 := m ((c.tc : Thread nD τ).loc main_arg2)
abbrev a3 : Vec Ideal S1x256 .f32 := m ((c.tc : Thread nD τ).loc main_arg3)
abbrev a4 : Vec Ideal S1x128 .f32 := m ((c.tc : Thread nD τ).loc main_arg4)
abbrev a5 : Vec Ideal S256x512 .bf16 := m ((c.tc : Thread nD τ).loc main_arg5)
abbrev a6 : Vec Ideal S256x512 .bf16 := m ((c.tc : Thread nD τ).loc main_arg6)
abbrev a7 : Vec Ideal S128x512 .bf16 := m ((c.tc : Thread nD τ).loc main_arg7)
abbrev a8 : Vec Ideal S128x256 .bf16 := m ((c.tc : Thread nD τ).loc main_arg8)
abbrev a9 : Vec Ideal S128x512 .bf16 := m ((c.tc : Thread nD τ).loc main_arg9)
abbrev a10 : Vec Ideal S128x512 .bf16 := m ((c.tc : Thread nD τ).loc main_arg10)
abbrev a11 : Vec Ideal S2048x512 .f32 := m ((c.tc : Thread nD τ).loc main_arg11)
abbrev a12 : Vec Ideal S2048x512 .f32 := m ((c.tc : Thread nD τ).loc main_arg12)

/-- The weights' and gains' windows are at the origin at every point. -/
theorem whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The tokens' and the tables' windows at each point. -/
theorem moving : ∀ t : Fin cfg0.N, win0_0.index t = ![t.val, 0] ∧ win0_11.index t = ![t.val % 4, 0] ∧ win0_12.index t = ![t.val % 4, 0] :=
  (by decide +kernel : ∀ t : Fin grid0.N, _)

/-- The results' windows at each point. -/
theorem written : ∀ t : Fin cfg0.N, win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val / 4, 0, t.val % 4] ∧ win0_22.index t = ![t.val / 4, 0, t.val % 4] :=
  (by decide +kernel : ∀ t : Fin grid0.N, _)

/-- A block at the origin, of the array's own shape, is the array. -/
theorem at_origin {A B : ℕ} (x : (Mat A B).Idx → EReal) (e : (Mat A B).Idx → (Mat A B).Idx) (p : Fin 2 → ℕ) (hp : p = ![0, 0])
    (he : ∀ i, (e i 0).val = p 0 * A + 1 * (i 0).val ∧ (e i 1).val = p 1 * B + 1 * (i 1).val) : (fun i => x (e i)) = x := by
  subst hp
  exact funext fun i => congrArg x (mat_ext ((he i).1.trans (by show 0 * A + 1 * (i 0).val = _; omega))
    ((he i).2.trans (by show 0 * B + 1 * (i 1).val = _; omega)))

/-- A row of a block of 512 rows is a row of the array. -/
theorem of_rows {M B : ℕ} (x : (Mat M B).Idx → EReal) (e : (Mat 512 B).Idx → (Mat M B).Idx) (p : Fin 2 → ℕ) (n : ℕ) (hp : p = ![n, 0])
    (he : ∀ i, (e i 0).val = p 0 * 512 + 1 * (i 0).val ∧ (e i 1).val = p 1 * B + 1 * (i 1).val) (r : Fin 512) (R : Fin M)
    (hR : R.val = n * 512 + r.val) (j : Fin B) : x (e (ix2 r j)) = x (ix2 R j) := by
  subst hp
  exact congrArg x (mat_ext ((he _).1.trans (by show n * 512 + 1 * r.val = R.val; omega))
    ((he _).2.trans (by show 0 * B + 1 * j.val = j.val; omega)))

/-- A column of a block of 512 columns of one matrix is a column of that matrix. -/
theorem of_columns {A : ℕ} (x : (Cube 16 A 2048).Idx → EReal) (e : (Cube 1 A 512).Idx → (Cube 16 A 2048).Idx) (p : Fin 3 → ℕ) (n : ℕ)
    (hp : p = ![n / 4, 0, n % 4])
    (he : ∀ i, (e i 0).val = p 0 * 1 + 1 * (i 0).val ∧ (e i 1).val = p 1 * A + 1 * (i 1).val ∧ (e i 2).val = p 2 * 512 + 1 * (i 2).val)
    (r : Fin 512) (b : Fin 16) (s : Fin 2048) (hb : b.val = n / 4) (hs : s.val = n % 4 * 512 + r.val) (i : Fin A) :
    x (e (ix3 0 i r)) = x (ix3 b i s) := by
  subst hp
  exact congrArg x (funext fun a => Fin.ext (match a with
    | ⟨0, _⟩ => (he _).1.trans (by show n / 4 * 1 + 1 * 0 = b.val; omega)
    | ⟨1, _⟩ => (he _).2.1.trans (by show 0 * A + 1 * i.val = i.val; omega)
    | ⟨2, _⟩ => (he _).2.2.trans (by show n % 4 * 512 + 1 * r.val = s.val; omega)))

section blocks
variable (t : Fin cfg0.N)

/-- Each block of the weights and gains is all of them. -/
theorem blk_1 : iblk m c 1 t = a1 m c := at_origin (a1 m c) _ _ (whole t).1 fun _ => ⟨rfl, rfl⟩
theorem blk_2 : iblk m c 2 t = a2 m c := at_origin (a2 m c) _ _ (whole t).2.1 fun _ => ⟨rfl, rfl⟩
theorem blk_3 : iblk m c 3 t = a3 m c := at_origin (a3 m c) _ _ (whole t).2.2.1 fun _ => ⟨rfl, rfl⟩
theorem blk_4 : iblk m c 4 t = a4 m c := at_origin (a4 m c) _ _ (whole t).2.2.2.1 fun _ => ⟨rfl, rfl⟩
theorem blk_5 : iblk m c 5 t = a5 m c := at_origin (a5 m c) _ _ (whole t).2.2.2.2.1 fun _ => ⟨rfl, rfl⟩
theorem blk_6 : iblk m c 6 t = a6 m c := at_origin (a6 m c) _ _ (whole t).2.2.2.2.2.1 fun _ => ⟨rfl, rfl⟩
theorem blk_7 : iblk m c 7 t = a7 m c := at_origin (a7 m c) _ _ (whole t).2.2.2.2.2.2.1 fun _ => ⟨rfl, rfl⟩
theorem blk_8 : iblk m c 8 t = a8 m c := at_origin (a8 m c) _ _ (whole t).2.2.2.2.2.2.2.1 fun _ => ⟨rfl, rfl⟩
theorem blk_9 : iblk m c 9 t = a9 m c := at_origin (a9 m c) _ _ (whole t).2.2.2.2.2.2.2.2.1 fun _ => ⟨rfl, rfl⟩
theorem blk_10 : iblk m c 10 t = a10 m c := at_origin (a10 m c) _ _ (whole t).2.2.2.2.2.2.2.2.2 fun _ => ⟨rfl, rfl⟩

variable (r : Fin 512) (R : Fin 32768) (hR : R.val = t.val * 512 + r.val)
include hR

/-- A token's row. -/
theorem blk_0 : row (M := 512) (N := 1024) (iblk m c 0 t) r = row (a0 m c) R :=
  funext fun j => of_rows (a0 m c) _ _ _ (moving t).1 (fun _ => ⟨rfl, rfl⟩) r R hR j

/-- A token's cosines. -/
theorem blk_11 : row (M := 512) (N := 512) (iblk m c 11 t) r = row (a11 m c) ⟨R.val % 2048, by omega⟩ :=
  funext fun j => of_rows (a11 m c) _ _ _ (moving t).2.1 (fun _ => ⟨rfl, rfl⟩) r ⟨R.val % 2048, by omega⟩
    (by show R.val % 2048 = t.val % 4 * 512 + r.val; omega) j

/-- A token's sines. -/
theorem blk_12 : row (M := 512) (N := 512) (iblk m c 12 t) r = row (a12 m c) ⟨R.val % 2048, by omega⟩ :=
  funext fun j => of_rows (a12 m c) _ _ _ (moving t).2.2 (fun _ => ⟨rfl, rfl⟩) r ⟨R.val % 2048, by omega⟩
    (by show R.val % 2048 = t.val % 4 * 512 + r.val; omega) j

/-- The first array the kernel leaves, at a token's row. -/
theorem arr13 (j : Fin 768) : ((dats m 0 c).arrAt 13 cfg0.N : Vec Ideal S32768x768 .bf16) (ix2 R j)
    = lin (row (a0 m c) R) (a1 m c) ⟨j.val, by omega⟩ := by
  have e := congrFun ((blocks13 m c t ((by decide +kernel : ∀ t : Fin cfg0.N, (cfg0.win 13).flush t = true) t)).trans (flushed13 m c t)) (ix2 r j)
  refine (of_rows ((dats m 0 c).arrAt 13 cfg0.N) _ _ _ (written t).1 (fun _ => ⟨rfl, rfl⟩) r R hR j).symm.trans (e.trans ?_)
  refine (out13_at r _ _ _ _ _ _ _ _ _ _ _ _ _ j).trans ?_
  rw [blk_0 m c t r R hR, blk_1]

/-- The second array. -/
theorem arr14 (j : Fin 512) : ((dats m 0 c).arrAt 14 cfg0.N : Vec Ideal S32768x512 .bf16) (ix2 R j)
    = lin (row (a0 m c) R) (a1 m c) ⟨768 + j.val, by omega⟩ := by
  have e := congrFun ((blocks14 m c t ((by decide +kernel : ∀ t : Fin cfg0.N, (cfg0.win 14).flush t = true) t)).trans (flushed14 m c t)) (ix2 r j)
  refine (of_rows ((dats m 0 c).arrAt 14 cfg0.N) _ _ _ (written t).2.1 (fun _ => ⟨rfl, rfl⟩) r R hR j).symm.trans (e.trans ?_)
  refine (out14_at r _ _ _ _ _ _ _ _ _ _ _ _ _ j).trans ?_
  rw [blk_0 m c t r R hR, blk_1]

/-- The third array. -/
theorem arr15 (j : Fin 768) : ((dats m 0 c).arrAt 15 cfg0.N : Vec Ideal S32768x768 .bf16) (ix2 R j)
    = lin (row (a0 m c) R) (a1 m c) ⟨1280 + j.val, by omega⟩ := by
  have e := congrFun ((blocks15 m c t ((by decide +kernel : ∀ t : Fin cfg0.N, (cfg0.win 15).flush t = true) t)).trans (flushed15 m c t)) (ix2 r j)
  refine (of_rows ((dats m 0 c).arrAt 15 cfg0.N) _ _ _ (written t).2.2.1 (fun _ => ⟨rfl, rfl⟩) r R hR j).symm.trans (e.trans ?_)
  refine (out15_at r _ _ _ _ _ _ _ _ _ _ _ _ _ j).trans ?_
  rw [blk_0 m c t r R hR, blk_1]

/-- The fourth array. -/
theorem arr16 (j : Fin 256) : ((dats m 0 c).arrAt 16 cfg0.N : Vec Ideal S32768x256 .bf16) (ix2 R j)
    = lin (row (a0 m c) R) (a1 m c) ⟨2048 + j.val, by omega⟩ := by
  have e := congrFun ((blocks16 m c t ((by decide +kernel : ∀ t : Fin cfg0.N, (cfg0.win 16).flush t = true) t)).trans (flushed16 m c t)) (ix2 r j)
  refine (of_rows ((dats m 0 c).arrAt 16 cfg0.N) _ _ _ (written t).2.2.2.1 (fun _ => ⟨rfl, rfl⟩) r R hR j).symm.trans (e.trans ?_)
  refine (out16_at r _ _ _ _ _ _ _ _ _ _ _ _ _ j).trans ?_
  rw [blk_0 m c t r R hR, blk_1]

/-- The fifth array. -/
theorem arr17 (j : Fin 32) : ((dats m 0 c).arrAt 17 cfg0.N : Vec Ideal S32768x32 .bf16) (ix2 R j)
    = small (row (a0 m c) R) (a1 m c) ⟨32 + j.val, by omega⟩ := by
  have e := congrFun ((blocks17 m c t ((by decide +kernel : ∀ t : Fin cfg0.N, (cfg0.win 17).flush t = true) t)).trans (flushed17 m c t)) (ix2 r j)
  refine (of_rows ((dats m 0 c).arrAt 17 cfg0.N) _ _ _ (written t).2.2.2.2.1 (fun _ => ⟨rfl, rfl⟩) r R hR j).symm.trans (e.trans ?_)
  refine (out17_at r _ _ _ _ _ _ _ _ _ _ _ _ _ j).trans ?_
  rw [blk_0 m c t r R hR, blk_1]

/-- The sixth array. -/
theorem arr18 (j : Fin 512) : ((dats m 0 c).arrAt 18 cfg0.N : Vec Ideal S32768x512 .bf16) (ix2 R j)
    = q (row (a0 m c) R) (a1 m c) (a3 m c) (a5 m c) (a6 m c)
        (row (a11 m c) ⟨R.val % 2048, by omega⟩) (row (a12 m c) ⟨R.val % 2048, by omega⟩) j := by
  have e := congrFun ((blocks18 m c t ((by decide +kernel : ∀ t : Fin cfg0.N, (cfg0.win 18).flush t = true) t)).trans (flushed18 m c t)) (ix2 r j)
  refine (of_rows ((dats m 0 c).arrAt 18 cfg0.N) _ _ _ (written t).2.2.2.2.2.1 (fun _ => ⟨rfl, rfl⟩) r R hR j).symm.trans (e.trans ?_)
  refine (out18_at r _ _ _ _ _ _ _ _ _ _ _ _ _ j).trans ?_
  rw [blk_0 m c t r R hR, blk_1, blk_11 m c t r R hR, blk_12 m c t r R hR, blk_3, blk_5, blk_6]

/-- The seventh array, of finite narrow projections. -/
theorem arr19 (hs : ∀ j : Fin 128, small (row (a0 m c) R) (a1 m c) j = ((small (row (a0 m c) R) (a1 m c) j).toReal : EReal)) (j : Fin 512) : ((dats m 0 c).arrAt 19 cfg0.N : Vec Ideal S32768x512 .bf16) (ix2 R j)
    = k (row (a0 m c) R) (a1 m c) (a4 m c) (a7 m c) (a9 m c) (a10 m c)
        (row (a11 m c) ⟨R.val % 2048, by omega⟩) (row (a12 m c) ⟨R.val % 2048, by omega⟩) j := by
  have e := congrFun ((blocks19 m c t ((by decide +kernel : ∀ t : Fin cfg0.N, (cfg0.win 19).flush t = true) t)).trans (flushed19 m c t)) (ix2 r j)
  refine (of_rows ((dats m 0 c).arrAt 19 cfg0.N) _ _ _ (written t).2.2.2.2.2.2.1 (fun _ => ⟨rfl, rfl⟩) r R hR j).symm.trans (e.trans ?_)
  refine (out19_at r _ _ _ _ _ _ _ _ _ _ _ _ _ (by rw [blk_0 m c t r R hR, blk_1]; exact hs) j).trans ?_
  rw [blk_0 m c t r R hR, blk_1, blk_11 m c t r R hR, blk_12 m c t r R hR, blk_4, blk_7, blk_9, blk_10]

/-- The eighth array. -/
theorem arr20 (j : Fin 256) : ((dats m 0 c).arrAt 20 cfg0.N : Vec Ideal S32768x256 .bf16) (ix2 R j)
    = v (row (a0 m c) R) (a1 m c) (a4 m c) (a8 m c) j := by
  have e := congrFun ((blocks20 m c t ((by decide +kernel : ∀ t : Fin cfg0.N, (cfg0.win 20).flush t = true) t)).trans (flushed20 m c t)) (ix2 r j)
  refine (of_rows ((dats m 0 c).arrAt 20 cfg0.N) _ _ _ (written t).2.2.2.2.2.2.2.1 (fun _ => ⟨rfl, rfl⟩) r R hR j).symm.trans (e.trans ?_)
  refine (out20_at r _ _ _ _ _ _ _ _ _ _ _ _ _ j).trans ?_
  rw [blk_0 m c t r R hR, blk_1, blk_4, blk_8]

variable (b : Fin 16) (s : Fin 2048) (hb : b.val = t.val / 4) (hs : s.val = t.val % 4 * 512 + r.val)
include hb hs

/-- The ninth array, at a token's column. -/
theorem arr21 (i : Fin 256) : ((dats m 0 c).arrAt 21 cfg0.N : Vec Ideal S16x256x2048 .bf16) (ix3 b i s)
    = InprojSpec.t (row (a0 m c) R) (a2 m c) ⟨i.val, by omega⟩ := by
  have e := congrFun ((blocks21 m c t ((by decide +kernel : ∀ t : Fin cfg0.N, (cfg0.win 21).flush t = true) t)).trans (flushed21 m c t)) (ix3 0 i r)
  refine (of_columns ((dats m 0 c).arrAt 21 cfg0.N) _ _ _ (written t).2.2.2.2.2.2.2.2.1 (fun _ => ⟨rfl, rfl, rfl⟩) r b s hb hs i).symm.trans (e.trans ?_)
  refine (out21_at r _ _ _ _ _ _ _ _ _ _ _ _ _ i).trans ?_
  rw [blk_0 m c t r R hR, blk_2]

/-- The tenth array, at a token's column. -/
theorem arr22 (i : Fin 16) : ((dats m 0 c).arrAt 22 cfg0.N : Vec Ideal S16x16x2048 .f32) (ix3 b i s)
    = InprojSpec.t (row (a0 m c) R) (a2 m c) ⟨256 + i.val, by omega⟩ := by
  have e := congrFun ((blocks22 m c t ((by decide +kernel : ∀ t : Fin cfg0.N, (cfg0.win 22).flush t = true) t)).trans (flushed22 m c t)) (ix3 0 i r)
  refine (of_columns ((dats m 0 c).arrAt 22 cfg0.N) _ _ _ (written t).2.2.2.2.2.2.2.2.2 (fun _ => ⟨rfl, rfl, rfl⟩) r b s hb hs i).symm.trans (e.trans ?_)
  refine (out22_at r _ _ _ _ _ _ _ _ _ _ _ _ _ i).trans ?_
  rw [blk_0 m c t r R hR, blk_2]
end blocks

/-- The point that writes row `R`. -/
def point (R : Fin 32768) : Fin cfg0.N := ⟨R.val / 512, lt_of_lt_of_eq (by omega) (show 64 = cfg0.N from N_0.symm)⟩

/-- The row within that point's block. -/
def inner (R : Fin 32768) : Fin 512 := ⟨R.val % 512, by omega⟩

/-- The row of a token, from its point and its row there. -/
theorem place (R : Fin 32768) : R.val = (point R).val * 512 + (inner R).val := by
  show R.val = R.val / 512 * 512 + R.val % 512
  omega

/-- Two matrices equal at each row and column are equal. -/
theorem mat_eq {M N : ℕ} {x y : (Mat M N).Idx → EReal} (h : ∀ r j, x (ix2 r j) = y (ix2 r j)) : x = y := funext fun i => by
  rw [show i = ix2 (i 0) (i 1) from mat_ext rfl rfl]
  exact h _ _

/-- Two arrays equal at each index are equal. -/
theorem cube_eq {A B C : ℕ} {x y : (Cube A B C).Idx → EReal} (h : ∀ a b c, x (ix3 a b c) = y (ix3 a b c)) : x = y := funext fun i => by
  rw [show i = ix3 (i 0) (i 1) (i 2) from (funext fun a => by match a with | ⟨0, _⟩ => rfl | ⟨1, _⟩ => rfl | ⟨2, _⟩ => rfl)]
  exact h _ _ _

open Cert.InprojRefIdeal.Read Cert.InprojRefIdeal.Value

/-- The products of the tokens with the first, second, third and fourth slabs are the reference's. -/
theorem result0 : val_main_v66 (F := Ideal) (a0 m c) (a1 m c) = (dats m 0 c).arrAt 13 cfg0.N :=
  mat_eq fun R j => (v66_at _ _ R j).trans (arr13 m c _ _ R (place R) j).symm
theorem result1 : val_main_v67 (F := Ideal) (a0 m c) (a1 m c) = (dats m 0 c).arrAt 14 cfg0.N :=
  mat_eq fun R j => (v67_at _ _ R j).trans (arr14 m c _ _ R (place R) j).symm
theorem result2 : val_main_v68 (F := Ideal) (a0 m c) (a1 m c) = (dats m 0 c).arrAt 15 cfg0.N :=
  mat_eq fun R j => (v68_at _ _ R j).trans (arr15 m c _ _ R (place R) j).symm
theorem result3 : val_main_v69 (F := Ideal) (a0 m c) (a1 m c) = (dats m 0 c).arrAt 16 cfg0.N :=
  mat_eq fun R j => (v69_at _ _ R j).trans (arr16 m c _ _ R (place R) j).symm

/-- The indexer's keys are the reference's. -/
theorem result4 : val_main_v70 (F := Ideal) (a0 m c) (a1 m c) = (dats m 0 c).arrAt 17 cfg0.N :=
  mat_eq fun R j => (v70_at _ _ R j).trans (arr17 m c _ _ R (place R) j).symm

/-- The rotated queries are the reference's. -/
theorem result5 : val_main_v71 (F := Ideal) (a0 m c) (a1 m c) (a3 m c) (a5 m c) (a6 m c) (a11 m c) (a12 m c) = (dats m 0 c).arrAt 18 cfg0.N :=
  mat_eq fun R j => (v71_at _ _ _ _ _ _ _ R j).trans (arr18 m c _ _ R (place R) j).symm

/-- The product of a finite row and a finite column is finite. -/
theorem lin_real {K N : ℕ} (X : Fin K → EReal) (w : (Mat K N).Idx → EReal) (j : Fin N) (hX : ∀ k, ((X k).toReal : EReal) = X k)
    (hw : ∀ k, ((w (ix2 k j)).toReal : EReal) = w (ix2 k j)) : lin X w j = ((lin X w j).toReal : EReal) := by
  have e : lin X w j = ((∑ k, (X k).toReal * (w (ix2 k j)).toReal : ℝ) : EReal) := by
    rw [coe_sum]
    exact Finset.sum_congr rfl fun k _ => by rw [EReal.coe_mul, hX, hw]
  rw [e, EReal.toReal_coe]

/-- The narrow projections of finite tokens by finite weights are finite. -/
theorem small_real [Cert.Pre_inproj_finite.Facts]
    (h : (Cert.Pre_inproj_finite.fn (F := Ideal) (a0 m c) (a1 m c) (a2 m c) (a3 m c) (a4 m c) (a5 m c) (a6 m c) (a7 m c) (a8 m c) (a9 m c) (a10 m c) (a11 m c) (a12 m c)).1 = (fun _ => 1#1)
      ∧ (Cert.Pre_inproj_finite.fn (F := Ideal) (a0 m c) (a1 m c) (a2 m c) (a3 m c) (a4 m c) (a5 m c) (a6 m c) (a7 m c) (a8 m c) (a9 m c) (a10 m c) (a11 m c) (a12 m c)).2 = fun _ => 1#1)
    (R : Fin 32768) (j : Fin 128) : small (row (a0 m c) R) (a1 m c) j = ((small (row (a0 m c) R) (a1 m c) j).toReal : EReal) := by
  refine lin_real _ _ _ (fun k => real_of_cmp _ (Ideal.ofBits .f32 0x7F800000#32) (by simp [Ideal.ofBits, Ideal.ieee]) (congrFun h.1 (ix2 R k))) fun k => ?_
  have e : extractStridedSlice Cert.Pre_inproj_finite.S1024x128 ![0, 2688] (a1 m c) (Cert.Pre_inproj_finite.Facts.slices_S1024x2816_S1024x128_0_2688) (ix2 k j)
      = a1 m c (ix2 k ⟨2688 + j.val, by omega⟩) := congrArg (a1 m c) (mat_ext (Nat.zero_add _) rfl)
  rw [← e]
  exact real_of_cmp _ (Ideal.ofBits .bf16 0x7F80#16) (by simp [Ideal.ofBits, Ideal.ieee]) (congrFun h.2 (ix2 k j))

/-- The rotated keys are the reference's, of finite tokens and finite narrow weights. -/
theorem result6 (hs : ∀ R j, small (row (a0 m c) R) (a1 m c) j = ((small (row (a0 m c) R) (a1 m c) j).toReal : EReal)) :
    val_main_v72 (F := Ideal) (a0 m c) (a1 m c) (a4 m c) (a7 m c) (a9 m c) (a10 m c) (a11 m c) (a12 m c) = (dats m 0 c).arrAt 19 cfg0.N :=
  mat_eq fun R j => (v72_at _ _ _ _ _ _ _ _ R j).trans (arr19 m c _ _ R (place R) (hs R) j).symm

/-- The values are the reference's. -/
theorem result7 : val_main_v73 (F := Ideal) (a0 m c) (a1 m c) (a4 m c) (a8 m c) = (dats m 0 c).arrAt 20 cfg0.N :=
  mat_eq fun R j => (v73_at _ _ _ _ R j).trans (arr20 m c _ _ R (place R) j).symm

/-- The batch and the position of a token, from its point and its row there. -/
theorem place_batch (b : Fin 16) (s : Fin 2048) (R : Fin 32768) (h : R.val = b.val * 2048 + s.val) :
    b.val = (point R).val / 4 ∧ s.val = (point R).val % 4 * 512 + (inner R).val := by
  refine ⟨?_, ?_⟩
  · show b.val = R.val / 512 / 4
    omega
  · show s.val = R.val / 512 % 4 * 512 + R.val % 512
    omega

/-- The transposed values are the reference's. -/
theorem result8 : val_main_v74 (F := Ideal) (a0 m c) (a2 m c) = (dats m 0 c).arrAt 21 cfg0.N :=
  cube_eq fun b i s => (v74_at _ _ b i s).trans
    (arr21 m c _ _ _ (place _) b s (place_batch b s _ rfl).1 (place_batch b s _ rfl).2 i).symm

/-- The transposed narrow projections are the reference's. -/
theorem result9 : val_main_v75 (F := Ideal) (a0 m c) (a2 m c) = (dats m 0 c).arrAt 22 cfg0.N :=
  cube_eq fun b i s => (v75_at _ _ b i s).trans
    (arr22 m c _ _ _ (place _) b s (place_batch b s _ rfl).1 (place_batch b s _ rfl).2 i).symm

end Cert.InprojEq

end
-- ==== Proof.CumMath.lean ====
/-
  The log of the sigmoid, and the sum up to a place by doubling steps.
-/
module

public import proofs.«01_k».proof.Proof.AttnMath

@[expose] public section

noncomputable section

open Idealize.ShloMosaic

namespace Cert.Cum

/-- The log of the sigmoid of `x`, as the smaller of `x` and zero less a correction. -/
def logSigmoid (x : EReal) : EReal := min x 0 - Ideal.log (1 + Ideal.exp (-(max x (-x))))

/-- The exponential of `-|x|` is a real that is not negative. -/
theorem exp_real (x : EReal) : ∃ e : ℝ, 0 ≤ e ∧ Ideal.exp (-(max x (-x))) = (e : EReal) := by
  induction x with
  | bot => exact ⟨0, le_rfl, by simp⟩
  | top => exact ⟨0, le_rfl, by simp⟩
  | coe r =>
    refine ⟨Real.exp (-(max r (-r))), (Real.exp_pos _).le, ?_⟩
    rw [← EReal.coe_neg, ← EReal.coe_strictMono.monotone.map_max, ← EReal.coe_neg, Ideal.exp_coe]

/-- The correction is real. -/
theorem log_real (x : EReal) : ∃ l : ℝ, Ideal.log (1 + Ideal.exp (-(max x (-x)))) = (l : EReal) := by
  obtain ⟨e, he, h⟩ := exp_real x
  refine ⟨Real.log (1 + e), ?_⟩
  rw [h, ← EReal.coe_one, ← EReal.coe_add, Ideal.log_coe, if_neg (by linarith)]

/-- The negated larger of `-x` and zero is the smaller of `x` and zero. -/
theorem neg_max_neg (x : EReal) : -(max (-x) 0) = min x 0 := by
  rw [EReal.neg_strictAnti.antitone.map_max, neg_neg, neg_zero]

/-- The negated softplus of `-x` is the log of the sigmoid. -/
theorem softplus (x : EReal) :
    -(max (-x) 0 + Ideal.log1p (Ideal.exp (-(max (-x - 0) (-(-x - 0)))))) = logSigmoid x := by
  obtain ⟨l, hl⟩ := log_real x
  unfold logSigmoid Ideal.log1p
  rw [sub_zero, neg_neg, max_comm (-x) x, hl,
    EReal.neg_add (Or.inr (EReal.coe_ne_top l)) (Or.inr (EReal.coe_ne_bot l)), neg_max_neg]

/-- The sum of the `d` values at `t` and before it, as far as there are any. -/
def back (d : ℕ) (f : ℕ → EReal) (t : ℕ) : EReal := ∑ i ∈ Finset.range d, if i ≤ t then f (t - i) else 0

theorem back_one (f : ℕ → EReal) (t : ℕ) : back 1 f t = f t := by simp [back]

/-- Adding the sum of the `d` values at `t` and the one `d` places earlier gives the sum of `2 d`. -/
theorem back_add (d : ℕ) (f : ℕ → EReal) (t : ℕ) : back d f t + (if d ≤ t then back d f (t - d) else 0) = back (d + d) f t := by
  unfold back
  rw [Finset.sum_range_add]
  refine congrArg (_ + ·) ?_
  split
  · refine Finset.sum_congr rfl fun i _ => ?_
    rw [Nat.sub_sub]
    exact if_congr (by omega) rfl rfl
  · exact (Finset.sum_eq_zero fun i _ => if_neg (by omega)).symm

/-- Reaching past the start, it is the sum of every value up to `t`. -/
theorem back_all {d t : ℕ} (h : t < d) (f : ℕ → EReal) : back d f t = ∑ s : Fin d, if s.val ≤ t then f s else 0 := by
  have a := Cert.Attn.sum_masked (n := t + 1) h f
  have b := Cert.Attn.sum_masked (n := t + 1) h fun i => f (t - i)
  rw [Fin.sum_univ_eq_sum_range (fun i => if i < t + 1 then f (t - i) else 0)] at b
  simp only [Nat.lt_succ_iff] at a b
  rw [a]
  exact b.trans (Finset.sum_range_reflect f (t + 1))

end Cert.Cum

end
-- ==== Proof.CumKernel.lean ====
/-
  The body of the cumulative gate at the ideal instance, read at an index.
-/
module

public import proofs.«01_k».proof.Proof.Gen.CumIdeal.Value
public import proofs.«01_k».proof.Proof.AttnTile
public import proofs.«01_k».proof.Proof.CumMath
public import Idealize.ShloMosaic.Lib.KernelVsHost
public import Idealize.ShloMosaic.Lib.Pipeline.ValueKit.Tiles
public import Idealize.ShloMosaic.Lib.WordCmp

@[expose] public section

set_option maxRecDepth 16384

noncomputable section

open Idealize.ShloMosaic Idealize.ShloMosaic.TcCoe Idealize.SL.Sem
open Cert.CumIdeal Cert.CumIdeal.Gen Cert.Attn Cert.Cum

namespace Cert.CumIdeal.Value

/-- One step of the scan: each place gains the value `d` places earlier, where there is one. -/
def step (d : ℕ) (y : FVec Ideal S8x2048 .f32) : FVec Ideal S8x2048 .f32 :=
  addf y (select (cmpi .sge (iota .tc S8x2048 32 [1] iota_S8x2048_d1_w32) (broadcast S8x2048 (BitVec.ofNat 32 d)))
    (dynamicRotate 1 (BitVec.ofNat 32 d) none y rotates_S8x2048_d1) (broadcast S8x2048 (Scalar.ofBits .f32 0x00000000#32)))

/-- The rotation by `d`, from place `d` on. -/
theorem rotate_at {d : ℕ} (hd : d < 2048) (y : FVec Ideal S8x2048 .f32) (g : Fin 8) (t : Fin 2048) (h : d ≤ t.val) :
    dynamicRotate 1 (BitVec.ofNat 32 d) none y rotates_S8x2048_d1 (ix2 g t) = y (ix2 g ⟨t.val - d, by omega⟩) :=
  dynamicRotate_apply (1 : Fin 2) _ y _ _ _ fun b => by
    have ht := t.isLt
    match b with
    | ⟨0, _⟩ => rfl
    | ⟨1, _⟩ =>
      show t.val - d = (t.val + 2048 - (BitVec.ofNat 32 d).toNat % 2048) % 2048
      rw [BitVec.toNat_ofNat]
      omega

/-- The mask of a step, at an index. -/
theorem mask_at {d : ℕ} (hd : d < 2048) (g : Fin 8) (t : Fin 2048) :
    cmpi .sge (iota .tc S8x2048 32 [1] iota_S8x2048_d1_w32) (broadcast S8x2048 (BitVec.ofNat 32 d)) (ix2 g t) = BitVec.ofBool (decide (d ≤ t.val)) := by
  pointwise []
  exact WordCmp.cmpi_sge_ofNat (by omega) (by omega)

/-- A step at an index. -/
theorem step_at {d : ℕ} (hd : d < 2048) (y : FVec Ideal S8x2048 .f32) (g : Fin 8) (t : Fin 2048) :
    step d y (ix2 g t) = y (ix2 g t) + if d ≤ t.val then y (ix2 g ⟨t.val - d, by omega⟩) else 0 := by
  have e : step d y (ix2 g t) = y (ix2 g t) + Scalar.select
      (cmpi .sge (iota .tc S8x2048 32 [1] iota_S8x2048_d1_w32) (broadcast S8x2048 (BitVec.ofNat 32 d)) (ix2 g t))
      (dynamicRotate 1 (BitVec.ofNat 32 d) none y rotates_S8x2048_d1 (ix2 g t)) (Ideal.ofBits .f32 0x00000000#32) := rfl
  rw [e, mask_at hd]
  by_cases h : d ≤ t.val
  · rw [if_pos h, decide_eq_true h, rotate_at hd y g t h]
    rfl
  · rw [if_neg h, decide_eq_false h]
    exact congrArg (y (ix2 g t) + ·) (show Ideal.ofBits .f32 0x00000000#32 = 0 by simp [Ideal.ofBits, Ideal.ieee])

/-- A step takes the sums of `d` values to the sums of twice as many. -/
theorem step_back {d e : ℕ} (hd : d < 2048) (he : e = d + d) {f : ℕ → ℕ → EReal} {y : FVec Ideal S8x2048 .f32}
    (h : ∀ (g : Fin 8) (t : Fin 2048), y (ix2 g t) = back d (f g) t) (g : Fin 8) (t : Fin 2048) : step d y (ix2 g t) = back e (f g) t := by
  rw [step_at hd, he, ← back_add, h]
  refine congrArg (_ + ·) ?_
  split
  · exact h g _
  · rfl

/-- The log-sigmoids of a block. -/
def gates (x0 : Vec Ideal S1x8x2048 .f32) (x1 : Vec Ideal S8x1 .f32) : FVec Ideal S8x2048 .f32 :=
  let x := addf (shapeCast S8x2048 x0 shapeCasts_S1x8x2048_S8x2048) (broadcastTo S8x2048 x1 broadcasts_S8x1_S8x2048)
  subf (minimumf x (broadcast S8x2048 (Scalar.ofBits .f32 0x00000000#32)))
    (log (addf (broadcast S8x2048 (Scalar.ofBits .f32 0x3F800000#32)) (exp (subf (broadcast S8x2048 (Scalar.ofBits .f32 0x00000000#32)) (absf x)))))

/-- The log-sigmoids at an index. -/
theorem gates_at (x0 : Vec Ideal S1x8x2048 .f32) (x1 : Vec Ideal S8x1 .f32) (g : Fin 8) (t : Fin 2048) :
    gates x0 x1 (ix2 g t) = logSigmoid (x0 (ix3 0 g t) + x1 (ix2 g 0)) := by
  unfold gates
  have z : Ideal.ofBits .f32 0x00000000#32 = 0 := by simp [Ideal.ofBits, Ideal.ieee]
  have o : Ideal.ofBits .f32 0x3F800000#32 = ((1 : ℝ) : EReal) := by
    simp [Ideal.ofBits, Ideal.ieee, -EReal.coe_mul]
    norm_num
  have a := drop_at (t := .f32) x0 shapeCasts_S1x8x2048_S8x2048 g t
  have b : broadcastTo S8x2048 x1 broadcasts_S8x1_S8x2048 (ix2 g t) = x1 (ix2 g 0) := by
    pointwise []
  show min (_ + _ : EReal) (Ideal.ofBits .f32 0x00000000#32)
    - Ideal.log (Ideal.ofBits .f32 0x3F800000#32 + Ideal.exp (Ideal.ofBits .f32 0x00000000#32 - max (_ + _ : EReal) (-(_ + _ : EReal)))) = _
  rw [a, b, z, o, zero_sub, EReal.coe_one]
  rfl

/-- The eleven steps, from distance one to distance 1024. -/
def scan (y : FVec Ideal S8x2048 .f32) : FVec Ideal S8x2048 .f32 :=
  step 1024 (step 512 (step 256 (step 128 (step 64 (step 32 (step 16 (step 8 (step 4 (step 2 (step 1 y))))))))))

/-- The steps leave at each place the sum of every value up to it. -/
theorem scan_at {f : ℕ → ℕ → EReal} {y : FVec Ideal S8x2048 .f32} (h : ∀ (g : Fin 8) (t : Fin 2048), y (ix2 g t) = f g t) (g : Fin 8) (t : Fin 2048) :
    scan y (ix2 g t) = ∑ s : Fin 2048, if s.val ≤ t.val then f g s else 0 := by
  have h0 : ∀ (g : Fin 8) (t : Fin 2048), y (ix2 g t) = back 1 (f g) t := fun g t => (h g t).trans (back_one _ _).symm
  have h3 := step_back (by omega) (show 8 = 4 + 4 by rfl) (step_back (by omega) (show 4 = 2 + 2 by rfl) (step_back (by omega) (show 2 = 1 + 1 by rfl) h0))
  have h6 := step_back (by omega) (show 64 = 32 + 32 by rfl) (step_back (by omega) (show 32 = 16 + 16 by rfl) (step_back (by omega) (show 16 = 8 + 8 by rfl) h3))
  have h9 := step_back (by omega) (show 512 = 256 + 256 by rfl) (step_back (by omega) (show 256 = 128 + 128 by rfl) (step_back (by omega) (show 128 = 64 + 64 by rfl) h6))
  exact (step_back (by omega) (show 2048 = 1024 + 1024 by rfl) (step_back (by omega) (show 1024 = 512 + 512 by rfl) h9) g t).trans (back_all t.isLt _)

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves is the scan of the log-sigmoids, with a leading unit axis. -/
theorem out_eq (x0 : Vec Ideal S1x8x2048 .f32) (x1 : Vec Ideal S8x1 .f32) :
    out0_2 x0 x1 = shapeCast S1x8x2048 (scan (gates x0 x1)) shapeCasts_S8x2048_S1x8x2048 := by
  unfold_out out0_2
  rw [View.canon_unit_zero (S := S1x8x2048) hz3, View.ld_unit_zero (S := S1x8x2048) hz3, View.ld_unit_zero (S := S8x1) hz2]
  rfl

/-- What the body leaves, at an index. -/
theorem out_at (x0 : Vec Ideal S1x8x2048 .f32) (x1 : Vec Ideal S8x1 .f32) {f : ℕ → ℕ → EReal}
    (h : ∀ (g : Fin 8) (t : Fin 2048), logSigmoid (x0 (ix3 0 g t) + x1 (ix2 g 0)) = f g t) (g : Fin 8) (t : Fin 2048) :
    out0_2 x0 x1 (ix3 0 g t) = ∑ s : Fin 2048, if s.val ≤ t.val then f g s else 0 := by
  rw [out_eq]
  exact (shapeCast_addUnit_apply ![8, 2048] _ _ _).trans
    ((congrArg (scan (gates x0 x1)) (funext fun a => by match a with | ⟨0, _⟩ => rfl | ⟨1, _⟩ => rfl)).trans
      (scan_at (fun g t => (gates_at x0 x1 g t).trans (h g t)) g t))

end Cert.CumIdeal.Value

end
-- ==== Proof.CumRef.lean ====
/-
  The cumulative gate's reference at the ideal instance, read at an index.
-/
module

public import proofs.«01_k».proof.Proof.Gen.CumRefIdeal.Read
public import proofs.«01_k».proof.Proof.CumMath
public import Idealize.ShloMosaic.Lib.WordCmp

@[expose] public section

set_option maxRecDepth 16384

noncomputable section

open Idealize.ShloMosaic Idealize.ShloMosaic.TcCoe Idealize.SL.Sem
open Cert.CumRefIdeal Cert.CumRefIdeal.Gen Cert.CumRefIdeal.Read Cert.Cum

namespace Cert.CumRefIdeal.Value

variable (x0 : Vec Ideal S16x16x2048 .f32) (x1 : Vec Ideal S8x1 .f32)

/-- The gate before its log-sigmoid, at an index. -/
theorem v3_at (b : Fin 16) (g : Fin 8) (t : Fin 2048) :
    val_main_v3 (F := Ideal) x0 x1 (ix3 b g t) = x0 (ix3 b ⟨g.val, by omega⟩ t) + x1 (ix2 g 0) := by
  pointwise [val_main_v3, val_main_v2, val_main_v1, val_main_v0]

/-- The log-sigmoid, at an index. -/
theorem v4_at (b : Fin 16) (g : Fin 8) (t : Fin 2048) :
    val_main_v4 (F := Ideal) x0 x1 (ix3 b g t) = logSigmoid (x0 (ix3 b ⟨g.val, by omega⟩ t) + x1 (ix2 g 0)) := by
  have z : ∀ i, val_main_call0_call0_cst (F := Ideal) i = (0 : EReal) := fun i => by
    show Ideal.ofBits .f32 0x00000000#32 = 0
    simp [Ideal.ofBits, Ideal.ieee]
  have n : val_main_call0_call0_v4 (F := Ideal) x0 x1 (ix3 b g t) = 0#1 := by
    rw [val_main_call0_call0_v4_apply]
    show BitVec.ofBool (decide (_ ≠ _)) = 0#1
    rw [decide_eq_false (not_not.mpr rfl)]
    rfl
  rw [← softplus, ← v3_at, val_main_v4_apply, val_main_call0_v1_apply, n, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_v0_apply, z]
  rfl

/-- The summands, at an index. -/
theorem v12_at (b : Fin 16) (g : Fin 8) (t s : Fin 2048) :
    val_main_v12 (F := Ideal) x0 x1 (ix4 b g t s) = if s.val ≤ t.val then val_main_v4 (F := Ideal) x0 x1 (ix3 b g s) else 0 := by
  pointwise [val_main_v12, val_main_call1_v3, val_main_call1_v2, val_main_call1_v1, val_main_call1_v0, val_main_v11, val_main_v10, val_main_v9, val_main_v8, val_main_v7, val_main_v6, val_main_v5]
  unfold Scalar.select
  exact if_congr (WordCmp.cmpi_sle_ofNat_eq_one_iff (by omega) (by omega)) rfl (by
    show Ideal.ofBits .f32 0x00000000#32 = 0
    simp [Ideal.ofBits, Ideal.ieee])

/-- The result at an index: the sum of the log-sigmoids up to it. -/
theorem v13_at (b : Fin 16) (g : Fin 8) (t : Fin 2048) :
    val_main_v13 (F := Ideal) x0 x1 (ix3 b g t)
      = ∑ s : Fin 2048, if s.val ≤ t.val then logSigmoid (x0 (ix3 b ⟨g.val, by omega⟩ s) + x1 (ix2 g 0)) else 0 := by
  pointwise [val_main_v13, val_main_cst_0, v12_at, v4_at]

end Cert.CumRefIdeal.Value

end
-- ==== Proof.CumEq.lean ====
/-
  The cumulative gate's kernel and its reference end with one array.
-/
module

public import proofs.«01_k».proof.Proof.CumKernel
public import proofs.«01_k».proof.Proof.CumRef
public import proofs.«01_k».proof.Proof.Finite

@[expose] public section

set_option maxRecDepth 16384

noncomputable section

open Idealize.ShloMosaic Idealize.ShloMosaic.TcCoe Idealize.SL.Sem
open Cert.CumIdeal Cert.CumIdeal.Gen Cert.CumIdeal.Value Cert.Cum Cert.Attn

namespace Cert.CumEq

variable (m : (ℓ : Loc nD τ sig) → Buf (Elt Ideal) ℓ) (c : Dev nD)

/-- The arguments, by name. -/
abbrev aX : Vec Ideal S16x16x2048 .f32 := m ((c.tc : Thread nD τ).loc main_arg0)
abbrev aB : Vec Ideal S8x1 .f32 := m ((c.tc : Thread nD τ).loc main_arg1)

/-- The windows' block indices at point `t`, decided over the grid. -/
theorem wfacts : ∀ t : Fin cfg0.N, win0_0.index t = ![t.val, 0, 0] ∧ win0_1.index t = ![0, 0] ∧ win0_2.index t = ![t.val, 0, 0] :=
  (by decide +kernel : ∀ t : Fin grid0.N, _)

/-- The gates a point reads. -/
theorem blk_0 (t : Fin cfg0.N) (b : Fin 16) (hb : b.val = t.val) (g : Fin 8) (s : Fin 2048) :
    iblk m c 0 t (ix3 0 g s) = aX m c (ix3 b ⟨g.val, by omega⟩ s) := by
  have e := (wfacts t).1
  have i0 : win0_0.index t (0 : Fin 3) = t.val := congrFun e 0
  have i1 : win0_0.index t (1 : Fin 3) = 0 := congrFun e 1
  have i2 : win0_0.index t (2 : Fin 3) = 0 := congrFun e 2
  unfold iblk
  rw [View.read_apply]
  refine congrArg (aX m c) (funext fun a => Fin.ext ?_)
  match a with
  | ⟨0, _⟩ => show win0_0.index t (0 : Fin 3) * 1 + 1 * 0 = b.val; omega
  | ⟨1, _⟩ => show win0_0.index t (1 : Fin 3) * 8 + 1 * g.val = g.val; omega
  | ⟨2, _⟩ => show win0_0.index t (2 : Fin 3) * 2048 + 1 * s.val = s.val; omega

/-- The biases a point reads. -/
theorem blk_1 (t : Fin cfg0.N) (g : Fin 8) : iblk m c 1 t (ix2 g 0) = aB m c (ix2 g 0) := by
  have e := (wfacts t).2.1
  have i0 : win0_1.index t (0 : Fin 2) = 0 := congrFun e 0
  have i1 : win0_1.index t (1 : Fin 2) = 0 := congrFun e 1
  unfold iblk
  rw [View.read_apply]
  refine congrArg (aB m c) (funext fun a => Fin.ext ?_)
  match a with
  | ⟨0, _⟩ => show win0_1.index t (0 : Fin 2) * 8 + 1 * g.val = g.val; omega
  | ⟨1, _⟩ => show win0_1.index t (1 : Fin 2) * 1 + 1 * 0 = 0; omega

/-- The kernel's result at an index: the sum of the log-sigmoids up to it. -/
theorem kernel_at (b : Fin 16) (g : Fin 8) (s : Fin 2048) :
    ((dats m 0 c).arrAt 2 cfg0.N : Vec Ideal S16x8x2048 .f32) (ix3 b g s)
      = ∑ k : Fin 2048, if k.val ≤ s.val then logSigmoid (aX m c (ix3 b ⟨g.val, by omega⟩ k) + aB m c (ix2 g 0)) else 0 := by
  have hN : cfg0.N = 16 := N_0
  let t : Fin cfg0.N := ⟨b.val, by omega⟩
  obtain ⟨f, hf⟩ := named3 (fun i : S16x8x2048.Idx => logSigmoid (aX m c (ix3 (i 0) ⟨(i 1).val, Nat.lt_of_lt_of_le (i 1).isLt (by decide)⟩ (i 2)) + aB m c (ix2 (i 1) 0)))
  have e := congrFun (blocks2 m c t ((by decide +kernel : ∀ t : Fin cfg0.N, (cfg0.win 2).flush t = true) t)) (ix3 0 g s)
  rw [View.read_apply] at e
  refine Eq.trans (congrArg ((dats m 0 c).arrAt 2 cfg0.N : Vec Ideal S16x8x2048 .f32) (funext fun a => Fin.ext ?_))
    (e.trans ?_)
  · have w := (wfacts t).2.2
    have i0 : win0_2.index t (0 : Fin 3) = b.val := congrFun w 0
    have i1 : win0_2.index t (1 : Fin 3) = 0 := congrFun w 1
    have i2 : win0_2.index t (2 : Fin 3) = 0 := congrFun w 2
    match a with
    | ⟨0, _⟩ => show b.val = win0_2.index t (0 : Fin 3) * 1 + 1 * 0; omega
    | ⟨1, _⟩ => show g.val = win0_2.index t (1 : Fin 3) * 8 + 1 * g.val; omega
    | ⟨2, _⟩ => show s.val = win0_2.index t (2 : Fin 3) * 2048 + 1 * s.val; omega
  · rw [flushed2]
    refine (out_at (iblk m c 0 t) (iblk m c 1 t) (f := f b) (fun g k => ?_) g s).trans ?_
    · rw [blk_0 m c t b rfl, blk_1]
      exact hf b g k
    · exact Finset.sum_congr rfl fun k _ => if_congr Iff.rfl (hf b g k).symm rfl

/-- The two results are one array. -/
theorem result : Cert.CumRefIdeal.Read.val_main_v13 (F := Ideal) (aX m c) (aB m c) = (dats m 0 c).arrAt 2 cfg0.N := by
  funext i
  rw [show i = ix3 (i 0) (i 1) (i 2) from (funext fun a => by match a with | ⟨0, _⟩ => rfl | ⟨1, _⟩ => rfl | ⟨2, _⟩ => rfl)]
  exact (Cert.CumRefIdeal.Value.v13_at _ _ (i 0) (i 1) (i 2)).trans (kernel_at m c (i 0) (i 1) (i 2)).symm

end Cert.CumEq

end
-- ==== Proof.lean ====
/-
  The proof of this certificate's claim: the frames of every program, the two idealizations, and the equality of each
  kernel's result with its reference's over the extended reals.
-/
module

public import proofs.«01_k».proof.Proof.Gen.Fox.Frame
public import proofs.«01_k».proof.Proof.Gen.FoxIdeal.Value
public import proofs.«01_k».proof.Proof.Gen.FoxIdeal.Frame
public import proofs.«01_k».proof.Proof.Gen.FoxRefIdeal.Run
public import proofs.«01_k».proof.Proof.Gen.FoxRefIdeal.Read
public import proofs.«01_k».proof.Proof.Gen.Moe.Frame
public import proofs.«01_k».proof.Proof.Gen.MoeIdeal.Value
public import proofs.«01_k».proof.Proof.Gen.MoeIdeal.Frame
public import proofs.«01_k».proof.Proof.Gen.MoeRefIdeal.Run
public import proofs.«01_k».proof.Proof.Gen.MoeRefIdeal.Read
public import proofs.«01_k».proof.Proof.Gen.Mla.Frame
public import proofs.«01_k».proof.Proof.Gen.MlaIdeal.Value
public import proofs.«01_k».proof.Proof.Gen.MlaIdeal.Frame
public import proofs.«01_k».proof.Proof.Gen.MlaRefIdeal.Run
public import proofs.«01_k».proof.Proof.Gen.MlaRefIdeal.Read
public import proofs.«01_k».proof.Proof.Gen.Inproj.Frame
public import proofs.«01_k».proof.Proof.Gen.InprojIdeal.Value
public import proofs.«01_k».proof.Proof.Gen.InprojIdeal.Frame
public import proofs.«01_k».proof.Proof.Gen.InprojRefIdeal.Run
public import proofs.«01_k».proof.Proof.Gen.InprojRefIdeal.Read
public import proofs.«01_k».proof.Proof.Gen.Band.Frame
public import proofs.«01_k».proof.Proof.Gen.BandIdeal.Value
public import proofs.«01_k».proof.Proof.Gen.BandIdeal.Frame
public import proofs.«01_k».proof.Proof.Gen.BandRefIdeal.Run
public import proofs.«01_k».proof.Proof.Gen.BandRefIdeal.Read
public import proofs.«01_k».proof.Proof.Gen.Cum.Frame
public import proofs.«01_k».proof.Proof.Gen.CumIdeal.Value
public import proofs.«01_k».proof.Proof.Gen.CumIdeal.Frame
public import proofs.«01_k».proof.Proof.Gen.CumRefIdeal.Run
public import proofs.«01_k».proof.Proof.Gen.CumRefIdeal.Read
public import proofs.«01_k».proof.Proof.MoeEq
public import proofs.«01_k».proof.Proof.BandEq
public import proofs.«01_k».proof.Proof.FoxEq
public import proofs.«01_k».proof.Proof.MlaEq
public import proofs.«01_k».proof.Proof.InprojEq
public import proofs.«01_k».proof.Proof.CumEq
public import proofs.«01_k».proof.Defs
public import Idealize.ShloMosaic.Adequacy
public import Idealize.ShloMosaic.Init

@[expose] public section

noncomputable section

namespace Cert.Proof

open Idealize.ShloMosaic Idealize.SL.Sem

/-- The forgetting-attention reference runs, leaves its arguments unchanged, and names no semaphore. -/
theorem foxRef : @quiescent_FoxRefIdeal Cert.FoxRefIdeal.Gen.facts := fun m g _ =>
  θ_run_mono (Cert.FoxRefIdeal.Value.run m g) fun r h => ⟨fun c => (h c).2, sem_eq_zero_of_no_sems (by decide) r.2⟩

/-- The mixture-of-experts reference runs, leaves its arguments unchanged, and names no semaphore. -/
theorem moeRef : @quiescent_MoeRefIdeal Cert.MoeRefIdeal.Gen.facts := fun m g _ =>
  θ_run_mono (Cert.MoeRefIdeal.Value.run m g) fun r h => ⟨fun c => (h c).2, sem_eq_zero_of_no_sems (by decide) r.2⟩

/-- The latent-attention reference runs, leaves its arguments unchanged, and names no semaphore. -/
theorem mlaRef : @quiescent_MlaRefIdeal Cert.MlaRefIdeal.Gen.facts := fun m g _ =>
  θ_run_mono (Cert.MlaRefIdeal.Value.run m g) fun r h => ⟨fun c => (h c).2, sem_eq_zero_of_no_sems (by decide) r.2⟩

/-- The input-projection reference runs, leaves its arguments unchanged, and names no semaphore. -/
theorem inprojRef : @quiescent_InprojRefIdeal Cert.InprojRefIdeal.Gen.facts := fun m g _ =>
  θ_run_mono (Cert.InprojRefIdeal.Value.run m g) fun r h =>
    ⟨fun c => (h c).2.2.2.2.2.2.2.2.2.2, sem_eq_zero_of_no_sems (by decide) r.2⟩

/-- The mixture-of-experts kernel and its reference end with the same result. -/
theorem moe : @algebraic_MoeIdeal_MoeRefIdeal Cert.MoeIdeal.Gen.facts Cert.MoeRefIdeal.Gen.facts := by
  pair_intro
  · run_from Cert.MoeIdeal.Value.run m g
  · run_from Cert.MoeRefIdeal.Value.run m' g'
    rw [Cert.MoeRefIdeal.Read.val_main_v52_eq]
    obtain ⟨h0, h1, h2, h3, h4, h5, h6, h7⟩ := hagree c
    rw [h0, h1, h2, h3, h4, h5, h6, h7]
    exact Cert.MoeEq.result m c

/-- The shape conditions of the forgetting attention's precondition. -/
theorem foxPre : Cert.Pre_fox_finite.Facts := ⟨by decide, by decide, by decide, by decide⟩

/-- The forgetting-attention kernel and its reference end with the same result, of finite queries, keys and decays. -/
theorem fox : @algebraic_FoxIdeal_FoxRefIdeal_pre_fox_finite Cert.FoxIdeal.Gen.facts Cert.FoxRefIdeal.Gen.facts foxPre := by
  haveI := foxPre
  pair_intro
  · run_from Cert.FoxIdeal.Value.run_blocks m g
  · run_from Cert.FoxRefIdeal.Value.run m' g'
    rw [Cert.FoxRefIdeal.Read.val_main_v38_eq]
    obtain ⟨h0, h1⟩ := hagree c
    rw [h0, h1]
    exact Cert.FoxEq.result c (hpre c)

/-- The shape conditions of the latent attention's precondition. -/
theorem mlaPre : Cert.Pre_mla_finite.Facts := ⟨by decide⟩

/-- The latent-attention kernel and its reference end with the same result, of finite queries and keys. -/
theorem mla : @algebraic_MlaIdeal_MlaRefIdeal_pre_mla_finite Cert.MlaIdeal.Gen.facts Cert.MlaRefIdeal.Gen.facts mlaPre := by
  haveI := mlaPre
  pair_intro
  · run_from Cert.MlaIdeal.Value.run_blocks m g
  · run_from Cert.MlaRefIdeal.Value.run m' g'
    rw [Cert.MlaRefIdeal.Read.val_main_v33_eq]
    obtain ⟨h0, h1, h2⟩ := hagree c
    rw [h0, h1, h2]
    exact Cert.MlaEq.result m c (hpre c)

/-- The shape conditions of the input projection's precondition. -/
theorem inprojPre : Cert.Pre_inproj_finite.Facts := ⟨by decide, by decide, by decide⟩

set_option maxHeartbeats 4000000 in
/-- The input-projection kernel and its reference end with the same ten results, of finite tokens and narrow weights. -/
theorem inproj : @algebraic_InprojIdeal_InprojRefIdeal_pre_inproj_finite Cert.InprojIdeal.Gen.facts Cert.InprojRefIdeal.Gen.facts inprojPre := by
  haveI := inprojPre
  intro m g m' g' hpre hagree
  refine ⟨fun c => (Cert.InprojIdeal.Gen.dats m 0 c).arrAt 13 Cert.InprojIdeal.cfg0.N, fun c => (Cert.InprojIdeal.Gen.dats m 0 c).arrAt 14 Cert.InprojIdeal.cfg0.N,
    fun c => (Cert.InprojIdeal.Gen.dats m 0 c).arrAt 15 Cert.InprojIdeal.cfg0.N, fun c => (Cert.InprojIdeal.Gen.dats m 0 c).arrAt 16 Cert.InprojIdeal.cfg0.N,
    fun c => (Cert.InprojIdeal.Gen.dats m 0 c).arrAt 17 Cert.InprojIdeal.cfg0.N, fun c => (Cert.InprojIdeal.Gen.dats m 0 c).arrAt 18 Cert.InprojIdeal.cfg0.N,
    fun c => (Cert.InprojIdeal.Gen.dats m 0 c).arrAt 19 Cert.InprojIdeal.cfg0.N, fun c => (Cert.InprojIdeal.Gen.dats m 0 c).arrAt 20 Cert.InprojIdeal.cfg0.N,
    fun c => (Cert.InprojIdeal.Gen.dats m 0 c).arrAt 21 Cert.InprojIdeal.cfg0.N, fun c => (Cert.InprojIdeal.Gen.dats m 0 c).arrAt 22 Cert.InprojIdeal.cfg0.N, ?_, ?_⟩
  · run_from Cert.InprojIdeal.Value.run_blocks m g
  · run_from Cert.InprojRefIdeal.Value.run m' g'
    · rw [Cert.InprojRefIdeal.Read.val_main_v66_eq]
      exact Cert.InprojEq.result0 m c
    · rw [Cert.InprojRefIdeal.Read.val_main_v67_eq]
      exact Cert.InprojEq.result1 m c
    · rw [Cert.InprojRefIdeal.Read.val_main_v68_eq]
      exact Cert.InprojEq.result2 m c
    · rw [Cert.InprojRefIdeal.Read.val_main_v69_eq]
      exact Cert.InprojEq.result3 m c
    · rw [Cert.InprojRefIdeal.Read.val_main_v70_eq]
      exact Cert.InprojEq.result4 m c
    · rw [Cert.InprojRefIdeal.Read.val_main_v71_eq]
      exact Cert.InprojEq.result5 m c
    · rw [Cert.InprojRefIdeal.Read.val_main_v72_eq]
      exact Cert.InprojEq.result6 m c (Cert.InprojEq.small_real m c (hpre c))
    · rw [Cert.InprojRefIdeal.Read.val_main_v73_eq]
      exact Cert.InprojEq.result7 m c
    · rw [Cert.InprojRefIdeal.Read.val_main_v74_eq]
      exact Cert.InprojEq.result8 m c
    · rw [Cert.InprojRefIdeal.Read.val_main_v75_eq]
      exact Cert.InprojEq.result9 m c

/-- The banded-attention reference runs, leaves its arguments unchanged, and names no semaphore. -/
theorem bandRef : @quiescent_BandRefIdeal Cert.BandRefIdeal.Gen.facts := fun m g _ =>
  θ_run_mono (Cert.BandRefIdeal.Value.run m g) fun r h => ⟨fun c => (h c).2, sem_eq_zero_of_no_sems (by decide) r.2⟩

/-- The shape conditions of the banded attention's precondition. -/
theorem bandPre : Cert.Pre_band_finite.Facts := ⟨by decide, by decide, by decide⟩

/-- The banded-attention kernel and its reference end with the same result, of finite queries, keys and biases. -/
theorem band : @algebraic_BandIdeal_BandRefIdeal_pre_band_finite Cert.BandIdeal.Gen.facts Cert.BandRefIdeal.Gen.facts bandPre := by
  haveI := bandPre
  pair_intro
  · run_from Cert.BandIdeal.Value.run_blocks m g
  · run_from Cert.BandRefIdeal.Value.run m' g'
    rw [Cert.BandRefIdeal.Read.val_main_v50_eq]
    obtain ⟨h0, h1⟩ := hagree c
    rw [h0, h1]
    exact Cert.BandEq.result c (hpre c)

/-- The cumulative gate's reference runs, leaves its arguments unchanged, and names no semaphore. -/
theorem cumRef : @quiescent_CumRefIdeal Cert.CumRefIdeal.Gen.facts := fun m g _ =>
  θ_run_mono (Cert.CumRefIdeal.Value.run m g) fun r h => ⟨fun c => (h c).2, sem_eq_zero_of_no_sems (by decide) r.2⟩

/-- The cumulative gate's kernel and its reference end with the same result. -/
theorem cum : @algebraic_CumIdeal_CumRefIdeal Cert.CumIdeal.Gen.facts Cert.CumRefIdeal.Gen.facts := by
  pair_intro
  · run_from Cert.CumIdeal.Value.run_blocks m g
  · run_from Cert.CumRefIdeal.Value.run m' g'
    exact (Cert.CumRefIdeal.Read.val_main_v13_eq _ _).trans (Cert.CumEq.result m c)

/-- Everything the certificate claims. -/
theorem claim : Cert.Claim :=
  ⟨Cert.Fox.Gen.facts, Cert.FoxIdeal.Gen.facts, Cert.FoxRefIdeal.Gen.facts,
    Cert.Moe.Gen.facts, Cert.MoeIdeal.Gen.facts, Cert.MoeRefIdeal.Gen.facts,
    Cert.Mla.Gen.facts, Cert.MlaIdeal.Gen.facts, Cert.MlaRefIdeal.Gen.facts,
    Cert.Inproj.Gen.facts, Cert.InprojIdeal.Gen.facts, Cert.InprojRefIdeal.Gen.facts,
    Cert.Band.Gen.facts, Cert.BandIdeal.Gen.facts, Cert.BandRefIdeal.Gen.facts,
    Cert.Cum.Gen.facts, Cert.CumIdeal.Gen.facts, Cert.CumRefIdeal.Gen.facts, foxPre, mlaPre, inprojPre, bandPre,
    fun m g _ => Cert.Fox.Gen.frame m g,
    fun m g _ => Cert.FoxIdeal.Gen.frame m g,
    fun m g _ => Cert.FoxIdeal.Gen.frame m g,
    foxRef,
    fun m g _ => foxRef m g trivial,
    fun m g _ => Cert.Moe.Gen.frame m g,
    fun m g _ => Cert.MoeIdeal.Gen.frame m g,
    moeRef,
    fun m g _ => Cert.Mla.Gen.frame m g,
    fun m g _ => Cert.MlaIdeal.Gen.frame m g,
    fun m g _ => Cert.MlaIdeal.Gen.frame m g,
    mlaRef,
    fun m g _ => mlaRef m g trivial,
    fun m g _ => Cert.Inproj.Gen.frame m g,
    fun m g _ => Cert.InprojIdeal.Gen.frame m g,
    fun m g _ => Cert.InprojIdeal.Gen.frame m g,
    inprojRef,
    fun m g _ => inprojRef m g trivial,
    fun m g _ => Cert.Band.Gen.frame m g,
    fun m g _ => Cert.BandIdeal.Gen.frame m g,
    fun m g _ => Cert.BandIdeal.Gen.frame m g,
    bandRef,
    fun m g _ => bandRef m g trivial,
    fun m g _ => Cert.Cum.Gen.frame m g,
    fun m g _ => Cert.CumIdeal.Gen.frame m g,
    cumRef,
    IdealRules.named_const.statement Cert.FoxIdeal.κ "mask" .f32 0xF149F2CA#32 ⊥ rfl,
    fox,
    trivial,
    moe,
    IdealRules.named_const.statement Cert.MlaIdeal.κ "mask" .f32 0xF149F2CA#32 ⊥ rfl,
    mla,
    trivial,
    inproj,
    trivial,
    band,
    trivial,
    cum⟩

end Cert.Proof

end
